-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_thresholds [hPre_sorted_thresholds : Cert.Pre_sorted_thresholds.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_thresholds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_thresholds [hPre_sorted_thresholds : Cert.Pre_sorted_thresholds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_thresholds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_thresholds [hKernelIdeal : Cert.KernelIdeal.Facts] [hPre_sorted_thresholds : Cert.Pre_sorted_thresholds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_thresholds m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_thresholds [hReferenceIdeal : Cert.ReferenceIdeal.Facts] [hPre_sorted_thresholds : Cert.Pre_sorted_thresholds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_thresholds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_thresholds [hKernelIdeal : Cert.KernelIdeal.Facts] [hReferenceIdeal : Cert.ReferenceIdeal.Facts] [hPre_sorted_thresholds : Cert.Pre_sorted_thresholds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_thresholds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sorted_thresholds : Cert.Pre_sorted_thresholds.Facts),
    quiescent_Kernel (hKernel := hKernel)
    ∧ quiescent_KernelIdeal (hKernelIdeal := hKernelIdeal)
    ∧ quiescent_KernelIdeal_pre_sorted_thresholds (hKernelIdeal := hKernelIdeal) (hPre_sorted_thresholds := hPre_sorted_thresholds)
    ∧ quiescent_ReferenceIdeal (hReferenceIdeal := hReferenceIdeal)
    ∧ quiescent_ReferenceIdeal_pre_sorted_thresholds (hReferenceIdeal := hReferenceIdeal) (hPre_sorted_thresholds := hPre_sorted_thresholds)
    ∧ preserves_Kernel_KernelIdeal
    ∧ algebraic_KernelIdeal_ReferenceIdeal_pre_sorted_thresholds (hKernelIdeal := hKernelIdeal) (hReferenceIdeal := hReferenceIdeal) (hPre_sorted_thresholds := hPre_sorted_thresholds)
-- ==== Pre_sorted_thresholds.lean ====
abbrev S1000000 : Shape := ⟨1, ![1000000]⟩
abbrev S19 : Shape := ⟨1, ![19]⟩
abbrev S18 : Shape := ⟨1, ![18]⟩
abbrev S_ : Shape := ⟨0, ![]⟩

class Facts : Prop where
  slices_S19_S18_1 : S19.Slices ![1] S18
  slices_S19_S18_0 : S19.Slices ![0] S18
  reducesTo_S18_S_d0 : S18.ReducesTo [0] S_
  h_S_ : 0 < S_.numel

variable [Facts]

def fn {F : FTy → Type} [FloatOps F] (main_arg0 : FVec F S1000000 .f32) (main_arg1 : FVec F S19 .f32) : IVec S_ 1 :=
  let main_v0 : FVec F S18 .f32 := (extractStridedSlice S18 ![1] · slices_S19_S18_1) main_arg1
  let main_v1 : FVec F S18 .f32 := (extractStridedSlice S18 ![0] · slices_S19_S18_0) main_arg1
  let main_v2 : IVec S18 1 := cmpf .oge main_v0 main_v1
  let main_c : IVec S_ 1 := constantI S_ 1 1#1
  let main_v3 : IVec S_ 1 := (fun x v => Host.reduce IntOp.andi x v reducesTo_S18_S_d0 h_S_) main_v2 main_c
  main_v3
-- ==== Kernel.lean ====
abbrev S1000000 : Shape := ⟨1, ![1000000]⟩
abbrev S19 : Shape := ⟨1, ![19]⟩
abbrev S1000000x21 : Shape := ⟨2, ![1000000, 21]⟩
abbrev S400x21 : Shape := ⟨2, ![400, 21]⟩
abbrev S512 : Shape := ⟨1, ![512]⟩
abbrev S32 : Shape := ⟨1, ![32]⟩
abbrev S_ : Shape := ⟨0, ![]⟩
abbrev S16 : Shape := ⟨1, ![16]⟩
abbrev S1 : Shape := ⟨1, ![1]⟩
abbrev S400 : Shape := ⟨1, ![400]⟩
abbrev S1x16 : Shape := ⟨2, ![1, 16]⟩

abbrev nBuf : Table → Nat
  | .hbm => 3
  | .local .scVector .vmem => 5
  | _ => 0

abbrev bufTy : (tb : Table) → Fin (nBuf tb) → BufTy
  | .hbm, ⟨0, _⟩ => ⟨S1000000, .f32⟩
  | .hbm, ⟨1, _⟩ => ⟨S19, .f32⟩
  | .hbm, ⟨2, _⟩ => ⟨S1000000x21, .i32⟩
  | .local .scVector .vmem, ⟨0, _⟩ => ⟨S400x21, .i32⟩
  | .local .scVector .vmem, ⟨1, _⟩ => ⟨S400x21, .i32⟩
  | .local .scVector .vmem, ⟨2, _⟩ => ⟨S512, .f32⟩
  | .local .scVector .vmem, ⟨3, _⟩ => ⟨S512, .f32⟩
  | .local .scVector .vmem, ⟨4, _⟩ => ⟨S32, .f32⟩
  | _, _ => ⟨S1000000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v68 : BitVec 32 := Scalar.muli v1 c400_i32
  ![v68.toNat]
@[reducible] def k0_t1_loop : Scf.Loop 32 :=
  let c0_i32_3 : BitVec 32 := 0#32
  let c40_i32 : BitVec 32 := 40#32
  let v73 : BitVec 32 := Scalar.addi c0_i32_3 c40_i32
  let c1_i32_4 : BitVec 32 := 1#32
  ⟨c0_i32_3, v73, c1_i32_4⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let c0_i32_3 : BitVec 32 := 0#32
  let c1_i32_4 : BitVec 32 := 1#32
  let arg14 : BitVec 32 := Scf.iv c0_i32_3 c1_i32_4 k0_t1
  let v78 : BitVec 32 := Scalar.muli c64_i32 arg14
  let v79 : BitVec 32 := Scalar.addi v1 v78
  let c32_i32 : BitVec 32 := 32#32
  let v80 : BitVec 32 := Scalar.addi v79 c32_i32
  let c2500_i32 : BitVec 32 := 2500#32
  let v81 : BitVec 1 := Scalar.cmpi .slt v80 c2500_i32
  let v82 : BitVec 32 := Scalar.extui v81
  let c0_i32_14 : BitVec 32 := 0#32
  let v83 : BitVec 1 := Scalar.cmpi .ne v82 c0_i32_14
  v83

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let c0_i32_3 : BitVec 32 := 0#32
  let c1_i32_4 : BitVec 32 := 1#32
  let arg14 : BitVec 32 := Scf.iv c0_i32_3 c1_i32_4 k0_t1
  let v78 : BitVec 32 := Scalar.muli c64_i32 arg14
  let v79 : BitVec 32 := Scalar.addi v1 v78
  let c32_i32 : BitVec 32 := 32#32
  let v80 : BitVec 32 := Scalar.addi v79 c32_i32
  let c400_i32_32 : BitVec 32 := 400#32
  let v110 : BitVec 32 := Scalar.muli v80 c400_i32_32
  ![v110.toNat]
def k0_cond4 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let c0_i32_3 : BitVec 32 := 0#32
  let c1_i32_4 : BitVec 32 := 1#32
  let arg14 : BitVec 32 := Scf.iv c0_i32_3 c1_i32_4 k0_t1
  let v78 : BitVec 32 := Scalar.muli c64_i32 arg14
  let v79 : BitVec 32 := Scalar.addi v1 v78
  let c2500_i32_20 : BitVec 32 := 2500#32
  let v92 : BitVec 1 := Scalar.cmpi .slt v79 c2500_i32_20
  let v93 : BitVec 32 := Scalar.extui v92
  let c0_i32_21 : BitVec 32 := 0#32
  let v94 : BitVec 1 := Scalar.cmpi .ne v93 c0_i32_21
  v94

@[reducible] def k0_t2_loop : Scf.Loop 32 :=
  let c0_i32_33 : BitVec 32 := 0#32
  let c25_i32 : BitVec 32 := 25#32
  let v110 : BitVec 32 := Scalar.addi c0_i32_33 c25_i32
  let c1_i32_34 : BitVec 32 := 1#32
  ⟨c0_i32_33, v110, c1_i32_34⟩
def k0_off3 (k0_t2 : Fin k0_t2_loop.trips) : Fin 1 → Nat :=
  let c16_i32 : BitVec 32 := 16#32
  let c0_i32_33 : BitVec 32 := 0#32
  let c1_i32_34 : BitVec 32 := 1#32
  let arg15 : BitVec 32 := Scf.iv c0_i32_33 c1_i32_34 k0_t2
  let v114 : BitVec 32 := Scalar.muli c16_i32 arg15
  let v115 : Index := Scalar.indexCast v114
  ![v115.toNat]
def k0_off4 (k0_t2 : Fin k0_t2_loop.trips) (c0_i32_40 : BitVec 32) : Fin 2 → Nat :=
  let c16_i32_39 : BitVec 32 := 16#32
  let c0_i32_33 : BitVec 32 := 0#32
  let c1_i32_34 : BitVec 32 := 1#32
  let arg15 : BitVec 32 := Scf.iv c0_i32_33 c1_i32_34 k0_t2
  let v178 : BitVec 32 := Scalar.muli c16_i32_39 arg15
  let v179 : BitVec 32 := Scalar.addi v178 c0_i32_40
  let v182 : Index := Scalar.indexCast v179
  let c0_41 : Index := 0#32
  ![v182.toNat, 0]
def k0_off5 (k0_t2 : Fin k0_t2_loop.trips) (c0_i32_40 : BitVec 32) : Fin 2 → Nat :=
  let c16_i32_39 : BitVec 32 := 16#32
  let c0_i32_33 : BitVec 32 := 0#32
  let c1_i32_34 : BitVec 32 := 1#32
  let arg15 : BitVec 32 := Scf.iv c0_i32_33 c1_i32_34 k0_t2
  let v178 : BitVec 32 := Scalar.muli c16_i32_39 arg15
  let v179 : BitVec 32 := Scalar.addi v178 c0_i32_40
  let v188 : Index := Scalar.indexCast v179
  let c5 : Index := 5#32
  ![v188.toNat, 5]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let c0_i32_3 : BitVec 32 := 0#32
  let c1_i32_4 : BitVec 32 := 1#32
  let arg14 : BitVec 32 := Scf.iv c0_i32_3 c1_i32_4 k0_t1
  let v78 : BitVec 32 := Scalar.muli c64_i32 arg14
  let v79 : BitVec 32 := Scalar.addi v1 v78
  let c400_i32_36 : BitVec 32 := 400#32
  let v111 : BitVec 32 := Scalar.muli v79 c400_i32_36
  let c0_i32_37 : BitVec 32 := 0#32
  ![v111.toNat, 0]
def k0_cond5 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let c0_i32_3 : BitVec 32 := 0#32
  let c1_i32_4 : BitVec 32 := 1#32
  let arg14 : BitVec 32 := Scf.iv c0_i32_3 c1_i32_4 k0_t1
  let v78 : BitVec 32 := Scalar.muli c64_i32 arg14
  let v79 : BitVec 32 := Scalar.addi v1 v78
  let c32_i32 : BitVec 32 := 32#32
  let v80 : BitVec 32 := Scalar.addi v79 c32_i32
  let c32_i32_22 : BitVec 32 := 32#32
  let v95 : BitVec 32 := Scalar.addi v80 c32_i32_22
  let c2500_i32_23 : BitVec 32 := 2500#32
  let v96 : BitVec 1 := Scalar.cmpi .slt v95 c2500_i32_23
  let v97 : BitVec 32 := Scalar.extui v96
  let c0_i32_24 : BitVec 32 := 0#32
  let v98 : BitVec 1 := Scalar.cmpi .ne v97 c0_i32_24
  v98

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let c0_i32_3 : BitVec 32 := 0#32
  let c1_i32_4 : BitVec 32 := 1#32
  let arg14 : BitVec 32 := Scf.iv c0_i32_3 c1_i32_4 k0_t1
  let v78 : BitVec 32 := Scalar.muli c64_i32 arg14
  let v79 : BitVec 32 := Scalar.addi v1 v78
  let c32_i32 : BitVec 32 := 32#32
  let v80 : BitVec 32 := Scalar.addi v79 c32_i32
  let c32_i32_32 : BitVec 32 := 32#32
  let v110 : BitVec 32 := Scalar.addi v80 c32_i32_32
  let c400_i32_33 : BitVec 32 := 400#32
  let v111 : BitVec 32 := Scalar.muli v110 c400_i32_33
  ![v111.toNat]
def k0_cond8 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let c0_i32_3 : BitVec 32 := 0#32
  let c1_i32_4 : BitVec 32 := 1#32
  let arg14 : BitVec 32 := Scf.iv c0_i32_3 c1_i32_4 k0_t1
  let v78 : BitVec 32 := Scalar.muli c64_i32 arg14
  let v79 : BitVec 32 := Scalar.addi v1 v78
  let c32_i32 : BitVec 32 := 32#32
  let v80 : BitVec 32 := Scalar.addi v79 c32_i32
  let c2500_i32_30 : BitVec 32 := 2500#32
  let v107 : BitVec 1 := Scalar.cmpi .slt v80 c2500_i32_30
  let v108 : BitVec 32 := Scalar.extui v107
  let c0_i32_31 : BitVec 32 := 0#32
  let v109 : BitVec 1 := Scalar.cmpi .ne v108 c0_i32_31
  v109

@[reducible] def k0_t3_loop : Scf.Loop 32 :=
  let c0_i32_33 : BitVec 32 := 0#32
  let c25_i32 : BitVec 32 := 25#32
  let v110 : BitVec 32 := Scalar.addi c0_i32_33 c25_i32
  let c1_i32_34 : BitVec 32 := 1#32
  ⟨c0_i32_33, v110, c1_i32_34⟩
def k0_off8 (k0_t3 : Fin k0_t3_loop.trips) : Fin 1 → Nat :=
  let c16_i32 : BitVec 32 := 16#32
  let c0_i32_33 : BitVec 32 := 0#32
  let c1_i32_34 : BitVec 32 := 1#32
  let arg15 : BitVec 32 := Scf.iv c0_i32_33 c1_i32_34 k0_t3
  let v114 : BitVec 32 := Scalar.muli c16_i32 arg15
  let v115 : Index := Scalar.indexCast v114
  ![v115.toNat]
def k0_off9 (k0_t3 : Fin k0_t3_loop.trips) (c0_i32_40 : BitVec 32) : Fin 2 → Nat :=
  let c16_i32_39 : BitVec 32 := 16#32
  let c0_i32_33 : BitVec 32 := 0#32
  let c1_i32_34 : BitVec 32 := 1#32
  let arg15 : BitVec 32 := Scf.iv c0_i32_33 c1_i32_34 k0_t3
  let v178 : BitVec 32 := Scalar.muli c16_i32_39 arg15
  let v179 : BitVec 32 := Scalar.addi v178 c0_i32_40
  let v182 : Index := Scalar.indexCast v179
  let c0_41 : Index := 0#32
  ![v182.toNat, 0]
def k0_off10 (k0_t3 : Fin k0_t3_loop.trips) (c0_i32_40 : BitVec 32) : Fin 2 → Nat :=
  let c16_i32_39 : BitVec 32 := 16#32
  let c0_i32_33 : BitVec 32 := 0#32
  let c1_i32_34 : BitVec 32 := 1#32
  let arg15 : BitVec 32 := Scf.iv c0_i32_33 c1_i32_34 k0_t3
  let v178 : BitVec 32 := Scalar.muli c16_i32_39 arg15
  let v179 : BitVec 32 := Scalar.addi v178 c0_i32_40
  let v188 : Index := Scalar.indexCast v179
  let c5 : Index := 5#32
  ![v188.toNat, 5]
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let c0_i32_3 : BitVec 32 := 0#32
  let c1_i32_4 : BitVec 32 := 1#32
  let arg14 : BitVec 32 := Scf.iv c0_i32_3 c1_i32_4 k0_t1
  let v78 : BitVec 32 := Scalar.muli c64_i32 arg14
  let v79 : BitVec 32 := Scalar.addi v1 v78
  let c32_i32 : BitVec 32 := 32#32
  let v80 : BitVec 32 := Scalar.addi v79 c32_i32
  let c400_i32_36 : BitVec 32 := 400#32
  let v111 : BitVec 32 := Scalar.muli v80 c400_i32_36
  let c0_i32_37 : BitVec 32 := 0#32
  ![v111.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000 : Shape := ⟨1, ![1000000]⟩
abbrev S19 : Shape := ⟨1, ![19]⟩
abbrev S1 : Shape := ⟨1, ![1]⟩
abbrev S_ : Shape := ⟨0, ![]⟩
abbrev S1x1000000 : Shape := ⟨2, ![1, 1000000]⟩
abbrev S16x1000000 : Shape := ⟨2, ![16, 1000000]⟩
abbrev S4x1000000 : Shape := ⟨2, ![4, 1000000]⟩
abbrev S20x1000000 : Shape := ⟨2, ![20, 1000000]⟩
abbrev S1000000x20 : Shape := ⟨2, ![1000000, 20]⟩
abbrev S1000000x1 : Shape := ⟨2, ![1000000, 1]⟩
abbrev S1000000x21 : Shape := ⟨2, ![1000000, 21]⟩

abbrev nBuf : Space → Nat
  | .hbm => 200
  | .vmem => 0
  | .smem => 0
  | _ => 0

abbrev hbmTy0_0 (i : Nat) : BufTy := match i % 128 with
  | 0 => ⟨S1000000, .f32⟩
  | 1 => ⟨S19, .f32⟩
  | 2 => ⟨S1, .f32⟩
  | 3 => ⟨S_, .f32⟩
  | 4 => ⟨S1000000, .f32⟩
  | 5 => ⟨S1000000, .i1⟩
  | 6 => ⟨S1, .f32⟩
  | 7 => ⟨S_, .f32⟩
  | 8 => ⟨S1000000, .f32⟩
  | 9 => ⟨S1000000, .i1⟩
  | 10 => ⟨S1, .f32⟩
  | 11 => ⟨S_, .f32⟩
  | 12 => ⟨S1000000, .f32⟩
  | 13 => ⟨S1000000, .i1⟩
  | 14 => ⟨S1000000, .i1⟩
  | 15 => ⟨S1, .f32⟩
  | 16 => ⟨S_, .f32⟩
  | 17 => ⟨S1000000, .f32⟩
  | 18 => ⟨S1000000, .i1⟩
  | 19 => ⟨S1, .f32⟩
  | 20 => ⟨S_, .f32⟩
  | 21 => ⟨S1000000, .f32⟩
  | 22 => ⟨S1000000, .i1⟩
  | 23 => ⟨S1000000, .i1⟩
  | 24 => ⟨S1, .f32⟩
  | 25 => ⟨S_, .f32⟩
  | 26 => ⟨S1000000, .f32⟩
  | 27 => ⟨S1000000, .i1⟩
  | 28 => ⟨S1, .f32⟩
  | 29 => ⟨S_, .f32⟩
  | 30 => ⟨S1000000, .f32⟩
  | 31 => ⟨S1000000, .i1⟩
  | 32 => ⟨S1000000, .i1⟩
  | 33 => ⟨S1, .f32⟩
  | 34 => ⟨S_, .f32⟩
  | 35 => ⟨S1000000, .f32⟩
  | 36 => ⟨S1000000, .i1⟩
  | 37 => ⟨S1, .f32⟩
  | 38 => ⟨S_, .f32⟩
  | 39 => ⟨S1000000, .f32⟩
  | 40 => ⟨S1000000, .i1⟩
  | 41 => ⟨S1000000, .i1⟩
  | 42 => ⟨S1, .f32⟩
  | 43 => ⟨S_, .f32⟩
  | 44 => ⟨S1000000, .f32⟩
  | 45 => ⟨S1000000, .i1⟩
  | 46 => ⟨S1, .f32⟩
  | 47 => ⟨S_, .f32⟩
  | 48 => ⟨S1000000, .f32⟩
  | 49 => ⟨S1000000, .i1⟩
  | 50 => ⟨S1000000, .i1⟩
  | 51 => ⟨S1, .f32⟩
  | 52 => ⟨S_, .f32⟩
  | 53 => ⟨S1000000, .f32⟩
  | 54 => ⟨S1000000, .i1⟩
  | 55 => ⟨S1, .f32⟩
  | 56 => ⟨S_, .f32⟩
  | 57 => ⟨S1000000, .f32⟩
  | 58 => ⟨S1000000, .i1⟩
  | 59 => ⟨S1000000, .i1⟩
  | 60 => ⟨S1, .f32⟩
  | 61 => ⟨S_, .f32⟩
  | 62 => ⟨S1000000, .f32⟩
  | 63 => ⟨S1000000, .i1⟩
  | 64 => ⟨S1, .f32⟩
  | 65 => ⟨S_, .f32⟩
  | 66 => ⟨S1000000, .f32⟩
  | 67 => ⟨S1000000, .i1⟩
  | 68 => ⟨S1000000, .i1⟩
  | 69 => ⟨S1, .f32⟩
  | 70 => ⟨S_, .f32⟩
  | 71 => ⟨S1000000, .f32⟩
  | 72 => ⟨S1000000, .i1⟩
  | 73 => ⟨S1, .f32⟩
  | 74 => ⟨S_, .f32⟩
  | 75 => ⟨S1000000, .f32⟩
  | 76 => ⟨S1000000, .i1⟩
  | 77 => ⟨S1000000, .i1⟩
  | 78 => ⟨S1, .f32⟩
  | 79 => ⟨S_, .f32⟩
  | 80 => ⟨S1000000, .f32⟩
  | 81 => ⟨S1000000, .i1⟩
  | 82 => ⟨S1, .f32⟩
  | 83 => ⟨S_, .f32⟩
  | 84 => ⟨S1000000, .f32⟩
  | 85 => ⟨S1000000, .i1⟩
  | 86 => ⟨S1000000, .i1⟩
  | 87 => ⟨S1, .f32⟩
  | 88 => ⟨S_, .f32⟩
  | 89 => ⟨S1000000, .f32⟩
  | 90 => ⟨S1000000, .i1⟩
  | 91 => ⟨S1, .f32⟩
  | 92 => ⟨S_, .f32⟩
  | 93 => ⟨S1000000, .f32⟩
  | 94 => ⟨S1000000, .i1⟩
  | 95 => ⟨S1000000, .i1⟩
  | 96 => ⟨S1, .f32⟩
  | 97 => ⟨S_, .f32⟩
  | 98 => ⟨S1000000, .f32⟩
  | 99 => ⟨S1000000, .i1⟩
  | 100 => ⟨S1, .f32⟩
  | 101 => ⟨S_, .f32⟩
  | 102 => ⟨S1000000, .f32⟩
  | 103 => ⟨S1000000, .i1⟩
  | 104 => ⟨S1000000, .i1⟩
  | 105 => ⟨S1, .f32⟩
  | 106 => ⟨S_, .f32⟩
  | 107 => ⟨S1000000, .f32⟩
  | 108 => ⟨S1000000, .i1⟩
  | 109 => ⟨S1, .f32⟩
  | 110 => ⟨S_, .f32⟩
  | 111 => ⟨S1000000, .f32⟩
  | 112 => ⟨S1000000, .i1⟩
  | 113 => ⟨S1000000, .i1⟩
  | 114 => ⟨S1, .f32⟩
  | 115 => ⟨S_, .f32⟩
  | 116 => ⟨S1000000, .f32⟩
  | 117 => ⟨S1000000, .i1⟩
  | 118 => ⟨S1, .f32⟩
  | 119 => ⟨S_, .f32⟩
  | 120 => ⟨S1000000, .f32⟩
  | 121 => ⟨S1000000, .i1⟩
  | 122 => ⟨S1000000, .i1⟩
  | 123 => ⟨S1, .f32⟩
  | 124 => ⟨S_, .f32⟩
  | 125 => ⟨S1000000, .f32⟩
  | 126 => ⟨S1000000, .i1⟩
  | 127 => ⟨S1, .f32⟩
  | _ => ⟨S1000000, .f32⟩

abbrev hbmTy0_1 (i : Nat) : BufTy := match i % 128 with
  | 0 => ⟨S_, .f32⟩
  | 1 => ⟨S1000000, .f32⟩
  | 2 => ⟨S1000000, .i1⟩
  | 3 => ⟨S1000000, .i1⟩
  | 4 => ⟨S1, .f32⟩
  | 5 => ⟨S_, .f32⟩
  | 6 => ⟨S1000000, .f32⟩
  | 7 => ⟨S1000000, .i1⟩
  | 8 => ⟨S1, .f32⟩
  | 9 => ⟨S_, .f32⟩
  | 10 => ⟨S1000000, .f32⟩
  | 11 => ⟨S1000000, .i1⟩
  | 12 => ⟨S1000000, .i1⟩
  | 13 => ⟨S1, .f32⟩
  | 14 => ⟨S_, .f32⟩
  | 15 => ⟨S1000000, .f32⟩
  | 16 => ⟨S1000000, .i1⟩
  | 17 => ⟨S1, .f32⟩
  | 18 => ⟨S_, .f32⟩
  | 19 => ⟨S1000000, .f32⟩
  | 20 => ⟨S1000000, .i1⟩
  | 21 => ⟨S1000000, .i1⟩
  | 22 => ⟨S1, .f32⟩
  | 23 => ⟨S_, .f32⟩
  | 24 => ⟨S1000000, .f32⟩
  | 25 => ⟨S1000000, .i1⟩
  | 26 => ⟨S1, .f32⟩
  | 27 => ⟨S_, .f32⟩
  | 28 => ⟨S1000000, .f32⟩
  | 29 => ⟨S1000000, .i1⟩
  | 30 => ⟨S1000000, .i1⟩
  | 31 => ⟨S1, .f32⟩
  | 32 => ⟨S_, .f32⟩
  | 33 => ⟨S1000000, .f32⟩
  | 34 => ⟨S1000000, .i1⟩
  | 35 => ⟨S1, .f32⟩
  | 36 => ⟨S_, .f32⟩
  | 37 => ⟨S1000000, .f32⟩
  | 38 => ⟨S1000000, .i1⟩
  | 39 => ⟨S1000000, .i1⟩
  | 40 => ⟨S1, .f32⟩
  | 41 => ⟨S_, .f32⟩
  | 42 => ⟨S1000000, .f32⟩
  | 43 => ⟨S1000000, .i1⟩
  | 44 => ⟨S1x1000000, .i1⟩
  | 45 => ⟨S1x1000000, .i1⟩
  | 46 => ⟨S1x1000000, .i1⟩
  | 47 => ⟨S1x1000000, .i1⟩
  | 48 => ⟨S1x1000000, .i1⟩
  | 49 => ⟨S1x1000000, .i1⟩
  | 50 => ⟨S1x1000000, .i1⟩
  | 51 => ⟨S1x1000000, .i1⟩
  | 52 => ⟨S1x1000000, .i1⟩
  | 53 => ⟨S1x1000000, .i1⟩
  | 54 => ⟨S1x1000000, .i1⟩
  | 55 => ⟨S1x1000000, .i1⟩
  | 56 => ⟨S1x1000000, .i1⟩
  | 57 => ⟨S1x1000000, .i1⟩
  | 58 => ⟨S1x1000000, .i1⟩
  | 59 => ⟨S1x1000000, .i1⟩
  | 60 => ⟨S1x1000000, .i1⟩
  | 61 => ⟨S1x1000000, .i1⟩
  | 62 => ⟨S1x1000000, .i1⟩
  | 63 => ⟨S1x1000000, .i1⟩
  | 64 => ⟨S16x1000000, .i1⟩
  | 65 => ⟨S4x1000000, .i1⟩
  | 66 => ⟨S20x1000000, .i1⟩
  | 67 => ⟨S1000000x20, .i1⟩
  | 68 => ⟨S1000000x20, .i32⟩
  | 69 => ⟨S_, .i32⟩
  | 70 => ⟨S1000000x1, .i32⟩
  | 71 => ⟨S1000000x21, .i32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩
abbrev main_v185 : Ref sig .tc := ⟨.hbm, 187, rfl⟩
abbrev main_v186 : Ref sig .tc := ⟨.hbm, 188, rfl⟩
abbrev main_v187 : Ref sig .tc := ⟨.hbm, 189, rfl⟩
abbrev main_v188 : Ref sig .tc := ⟨.hbm, 190, rfl⟩
abbrev main_v189 : Ref sig .tc := ⟨.hbm, 191, rfl⟩
abbrev main_v190 : Ref sig .tc := ⟨.hbm, 192, rfl⟩
abbrev main_v191 : Ref sig .tc := ⟨.hbm, 193, rfl⟩
abbrev main_v192 : Ref sig .tc := ⟨.hbm, 194, rfl⟩
abbrev main_v193 : Ref sig .tc := ⟨.hbm, 195, rfl⟩
abbrev main_v194 : Ref sig .tc := ⟨.hbm, 196, rfl⟩
abbrev main_c : Ref sig .tc := ⟨.hbm, 197, rfl⟩
abbrev main_v195 : Ref sig .tc := ⟨.hbm, 198, rfl⟩
abbrev main_v196 : Ref sig .tc := ⟨.hbm, 199, rfl⟩

abbrev nD : Nat := 1
abbrev τ : Topo := Topo.v7x

variable {F : FTy → Type} [FloatOps F]
-- ==== Proof.Setup.lean ====
/-
  What every module of the proof speaks about: the program as the launch theorem sees it, the resource algebra, the
  arrays, and the two numbers the kernel computes of a feature value: how many thresholds lie below it (`cntW`), and
  the entry of its one-hot row (`hot`).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

abbrev EH : Emb UH (MT nD τ sig (HIx 1) (Elt F) ℕ UU ℕ) := embL

/-! ## What is counted -/

/-- One threshold's contribution: 1 if the value lies above it. -/
def above [FloatOps F] (x t : F .f32) : BitVec 32 := if FloatOps.cmpf .ogt x t = 1#1 then 1#32 else 0#32

/-- How many of the 19 thresholds lie below `x`, added up in order. -/
def cntW [FloatOps F] (t : Fin 19 → F .f32) (x : F .f32) : BitVec 32 :=
  (List.finRange 19).foldl (fun a j => a + above x (t j)) 0#32

/-- Entry `c` of the one-hot row of count `b`. -/
def hot (b : BitVec 32) (c : ℕ) : BitVec 32 := if BitVec.ofNat 32 c = b then 1#32 else 0#32

end Cert.Proof

end
-- ==== Proof.Lanes.lean ====
/-
  The vectors that the inner loop's body computes, lane by lane: the count of a loaded value, and the two one-hot
  stretches of a row that its two stores write.
-/
module

public import proofs.«01_k».proof.Proof.Setup
public import Idealize.ShloMosaic.Lib.ValueIdxCore
public import Idealize.ShloMosaic.Lib.Pipeline.Value

@[expose] public section

noncomputable section

namespace Cert.Proof

open Cert.KernelIdeal Cert.KernelIdeal.Gen
open Idealize.ShloMosaic Idealize.ShloMosaic.ValueIdx

variable {F : FTy → Type} [FloatOps F]

/-- The one vector of ones, and of zeros, and the lane numbers, that the body builds. -/
abbrev vOne : IVec S16 32 := k0_pay123
abbrev vZero : IVec S16 32 := k0_pay124
abbrev vIota : IVec S16 32 := iota .scVector S16 32 [0] iota_S16_d0_w32_scVector
abbrev vIota5 : IVec S16 32 := k0_pay122

theorem vIota_apply (i : S16.Idx) : vIota i = BitVec.ofNat 32 (i 0).val := iota_single_apply _ _ _ _ _ _

theorem vIota5_apply (i : S16.Idx) : vIota5 i = BitVec.ofNat 32 ((i 0).val + 5) := by
  show vIota i + 5#32 = _
  rw [vIota_apply, BitVec.ofNat_add]

/-- The row piece that the body stores for count `b`, at the columns `col` names lane by lane. -/
def rowHot (col : IVec S16 32) (b : BitVec 32) : IVec S1x16 32 :=
  shapeCast S1x16 (select (cmpi .eq col (broadcast S16 b)) vOne vZero) shapeCasts_S16_S1x16

theorem rowHot_apply (col : IVec S16 32) (b : BitVec 32) (x : S1x16.Idx) :
    rowHot col b x = if col (ix1 (x 1 : Fin 16)) = b then 1#32 else 0#32 := by
  unfold rowHot
  refine (shapeCast_addUnit_apply (n := 1) ![16] _ _ x).trans ?_
  have e : (fun a : Fin 1 => x a.succ : S16.Idx) = ix1 (x 1 : Fin 16) := by
    funext a; match a with | ⟨0, _⟩ => rfl
  refine (congrArg (select (cmpi .eq col (broadcast S16 b)) vOne vZero) e).trans ?_
  show Scalar.select (IntOp.cmpi .eq (col (ix1 (x 1 : Fin 16))) b) (1#32 : BitVec 32) 0#32 = _
  unfold Scalar.select
  by_cases h : col (ix1 (x 1 : Fin 16)) = b
  · rw [if_pos h, if_pos (by simp [IntOp.cmpi, h])]
  · rw [if_neg h, if_neg (by simp [IntOp.cmpi, beq_eq_false_iff_ne.mpr h])]

theorem rowHot_iota (b : BitVec 32) (x : S1x16.Idx) : rowHot vIota b x = hot b (x 1).val := by
  rw [rowHot_apply, vIota_apply]; rfl

theorem rowHot_iota5 (b : BitVec 32) (x : S1x16.Idx) : rowHot vIota5 b x = hot b ((x 1).val + 5) := by
  rw [rowHot_apply, vIota5_apply]; rfl

/-- The word the body takes out of lane `r` of a vector. -/
theorem lane_eq {α : Type} (v : S16.Idx → α) (r : ℕ) (hr : r < 16) (h : S16.Slices ![r] S1) :
    extractAt ![0] (extractStridedSlice S1 ![r] v h) inpos_S1_p0 = v (ix1 ⟨r, hr⟩) := by
  show extractStridedSlice S1 ![r] v h _ = _
  refine extractStridedSlice_apply _ _ _ _ _ fun a => ?_
  match a with | ⟨0, _⟩ => rfl

/-- The counts of the sixteen loaded values, as the body adds them up. -/
def counts (tv : Fin 19 → F .f32) (x : Vec F S16 .f32) : IVec S16 32 :=
  k0_pay14 vOne vZero (broadcast S16 (tv 18)) (k0_pay12 x)
    (k0_pay13 vOne vZero (broadcast S16 (tv 0)) (broadcast S16 (tv 1)) (broadcast S16 (tv 2)) (broadcast S16 (tv 3))
      (broadcast S16 (tv 4)) (broadcast S16 (tv 5)) (broadcast S16 (tv 6)) (broadcast S16 (tv 7)) (broadcast S16 (tv 8))
      (broadcast S16 (tv 9)) (broadcast S16 (tv 10)) (broadcast S16 (tv 11)) (broadcast S16 (tv 12)) (broadcast S16 (tv 13))
      (broadcast S16 (tv 14)) (broadcast S16 (tv 15)) (broadcast S16 (tv 16)) (broadcast S16 (tv 17)) x)

theorem counts_apply (tv : Fin 19 → F .f32) (x : Vec F S16 .f32) (i : S16.Idx) : counts tv x i = cntW tv (x i) := by
  have e : k0_pay12 x = x := shapeCast_self _ _
  unfold counts k0_pay14 k0_pay13
  rw [e]
  rfl

end Cert.Proof

end
-- ==== Proof.Trip.lean ====
/-
  One trip of the inner loop: sixteen values are loaded, their counts taken, and sixteen one-hot rows stored.
-/
module

public import proofs.«01_k».proof.Proof.Lanes

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

variable [FloatOps F]
variable (d : Dev nD) (L : grid0.Coords)

variable (a2 : Memref sig .scVector .hbm S1000000 .f32) (h2 : a2.IsWhole) (a3 : Memref sig .scVector .hbm S19 .f32) (h3 : a3.IsWhole)
  (a4 : Memref sig .scVector .hbm S1000000x21 .i32) (h4 : a4.IsWhole) (a5 : Memref sig .scVector .vmem S400x21 .i32) (h5 : a5.IsWhole)
  (a6 : Memref sig .scVector .vmem S400x21 .i32) (h6 : a6.IsWhole) (a7 : Memref sig .scVector .vmem S512 .f32) (h7 : a7.IsWhole)
  (a8 : Memref sig .scVector .vmem S512 .f32) (h8 : a8.IsWhole) (a9 : Memref sig .scVector .vmem S32 .f32) (h9 : a9.IsWhole)
  (a10 a11 a12 a13 r0 : DmaSems sig S_) (v1 : BitVec 32)

theorem t3_eq_t2 (v2 v4 v5 v6 : IVec S16 32) (v8 v10 v13 v16 v19 v22 v25 v28 v31 v34 v37 v40 : FVec F S16 .f32) (v41 : FVec F S1 .f32)
    (c0 c1 : BitVec 32) (t : Fin k0_t1_loop.trips) (hA : k0_cond4 L t = 1#1) (hB : k0_cond8 L t = 1#1) :
    k0_t3_body L a2 h2 a3 h3 a4 h4 a5 h5 a6 h6 a7 h7 a8 h8 a9 h9 a10 a11 a12 a13 r0 v2 v4 v5 v6 v8 v10 v13 v16 v19 v22 v25 v28 v31 v34
        v37 v40 v41 t hB
      = k0_t2_body L a2 h2 a3 h3 a4 h4 a6 h6 a5 h5 a8 h8 a7 h7 a9 h9 a10 a11 a12 a13 r0 v1 v2 v4 v5 v6 v13 v16 v19 v22 v25 v28 v31 v34
          v37 v40 (k0_pay1 v41) (k0_pay2 v8) (k0_pay3 v8) (k0_pay4 v8) (k0_pay5 v8) (k0_pay6 v8) (k0_pay7 v10) (k0_pay8 v10) (k0_pay9 v10)
          c0 c1 t hA := by
  unfold k0_t3_body k0_t2_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton]
  rfl

/-! ## What a trip's stores leave -/

/-- The place of lane `r` of trip `p` in the fetch buffer. -/
abbrev fbIx (p : Fin k0_t2_loop.trips) (r : Fin 16) : S512.Idx :=
  ix1 ⟨16 * p.val + r.val, by have := p.isLt; have : k0_t2_loop.trips = 25 := rfl; omega⟩

theorem trips2 : k0_t2_loop.trips = 25 := rfl

/-- Row `16p + r` of the staging buffer, after trip `p`, is the one-hot row of the count of value `16p + r`; the other rows are as
    they were. -/
def tripVal (tv : Fin 19 → F .f32) (p : ℕ) (g : S512.Idx → F .f32) (s : S400x21.Idx → BitVec 32) : S400x21.Idx → BitVec 32 := fun y =>
  if 16 * p ≤ (y 0).val ∧ (y 0).val < 16 * p + 16 then
    hot (cntW tv (g (ix1 ⟨(y 0).val, lt_trans (y 0).isLt (by decide)⟩))) (y 1).val
  else s y

theorem tripVal_congr (tv : Fin 19 → F .f32) (p : ℕ) (g : S512.Idx → F .f32) (s : S400x21.Idx → BitVec 32) (r : ℕ) (hr : r < 16)
    (y : S400x21.Idx) (c : ℕ) (z : S512.Idx) (h0 : (y 0).val = 16 * p + r) (h1 : (y 1).val = c) (hz : (z 0).val = 16 * p + r) :
    tripVal tv p g s y = hot (cntW tv (g z)) c := by
  unfold tripVal
  rw [if_pos (by omega), h1]
  congr 3
  funext a
  match a with | ⟨0, _⟩ => exact Fin.ext (h0.trans hz.symm)

section Trip

variable (tv : Fin 19 → F .f32) (p : Fin k0_t2_loop.trips) (g : S512.Idx → F .f32) (s : S400x21.Idx → BitVec 32)
variable (x : Vec F S16 .f32) (hx : ∀ r : Fin 16, x (ix1 r) = g (fbIx p r))

include hx in
/-- The low store's piece of row `r`. -/
theorem piece_lo (r : ℕ) (hr : r < 16) (hs : S16.Slices ![r] S1) (off : Fin 2 → ℕ) (hoff : off = ![16 * p.val + r, 0])
    (hin : ∀ a, off a + S1x16.size a ≤ S400x21.size a) (w : S1x16.Idx → BitVec 32)
    (hw : w = rowHot vIota (extractAt ![0] (extractStridedSlice S1 ![r] (counts tv x) hs) inpos_S1_p0)) (k : S1x16.Idx) :
    w k = tripVal tv p.val g s ((Rect.unit (s := S400x21) off S1x16.size hin).emb k) := by
  subst hoff
  rw [hw, rowHot_iota, lane_eq _ _ hr, counts_apply, hx]
  have hk : (k 0).val = 0 := by have := (k 0).isLt; simp at this; omega
  refine (tripVal_congr tv p.val g s r hr _ (k 1).val _ ?_ ?_ rfl).symm
  · show 16 * p.val + r + 1 * (k 0).val = _
    omega
  · show 0 + 1 * (k 1).val = _
    omega

include hx in
/-- The high store's piece of row `r`: five columns further. -/
theorem piece_hi (r : ℕ) (hr : r < 16) (hs : S16.Slices ![r] S1) (off : Fin 2 → ℕ) (hoff : off = ![16 * p.val + r, 5])
    (hin : ∀ a, off a + S1x16.size a ≤ S400x21.size a) (w : S1x16.Idx → BitVec 32)
    (hw : w = rowHot vIota5 (extractAt ![0] (extractStridedSlice S1 ![r] (counts tv x) hs) inpos_S1_p0)) (k : S1x16.Idx) :
    w k = tripVal tv p.val g s ((Rect.unit (s := S400x21) off S1x16.size hin).emb k) := by
  subst hoff
  rw [hw, rowHot_iota5, lane_eq _ _ hr, counts_apply, hx]
  have hk : (k 0).val = 0 := by have := (k 0).isLt; simp at this; omega
  refine (tripVal_congr tv p.val g s r hr _ ((k 1).val + 5) _ ?_ ?_ rfl).symm
  · show 16 * p.val + r + 1 * (k 0).val = _
    omega
  · show 5 + 1 * (k 1).val = _
    omega

end Trip

/-- A row outside the trip's sixteen is in none of its stores. -/
theorem not_mem_row (off : Fin 2 → ℕ) (n c : ℕ) (hoff : off = ![n, c]) (hin : ∀ a, off a + S1x16.size a ≤ S400x21.size a)
    (y : S400x21.Idx) (h : (y 0).val ≠ n) : y ∉ (Rect.unit (s := S400x21) off S1x16.size hin).set := by
  subst hoff
  refine Rect.not_mem_set_of_axis _ y 0 n 1 rfl rfl rfl ?_
  have := Nat.lt_or_gt_of_ne h
  omega

/-- A place of row `n` below column 16 is in the low store, -/
theorem mem_row (off : Fin 2 → ℕ) (n c : ℕ) (hoff : off = ![n, c]) (hin : ∀ a, off a + S1x16.size a ≤ S400x21.size a)
    (y : S400x21.Idx) (h : (y 0).val = n) (h1 : c ≤ (y 1).val) (h2 : (y 1).val < c + 16) :
    y ∈ (Rect.unit (s := S400x21) off S1x16.size hin).set := by
  subst hoff
  refine Rect.mem_set_unit.mpr fun a => ?_
  match a with
  | ⟨0, _⟩ => exact ⟨by show n ≤ (y 0).val; omega, by show (y 0).val < n + 1; omega⟩
  | ⟨1, _⟩ => exact ⟨h1, h2⟩

/-- The entry at a numbered place of a list is in the list. -/
theorem atIx {α : Type*} {l : List α} {a : α} (i : ℕ) (h : l[i]? = some a) : a ∈ l := List.mem_of_getElem? h

section Trip

variable (tv : Fin 19 → F .f32) (c0 c1 : BitVec 32) (t : Fin k0_t1_loop.trips) (hA : k0_cond4 L t = 1#1)

/-- The inner loop's body, at thresholds given one by one. -/
abbrev trip : Fin k0_t2_loop.trips → Unit → Prog (TpuEff nD τ sig (Elt F) Λ₀ (.scVector ((L 0).castLE hcore0) ((L 1).castLE hsub0))) Unit :=
  k0_t2_body L a2 h2 a3 h3 a4 h4 a5 h5 a6 h6 a7 h7 a8 h8 a9 h9 a10 a11 a12 a13 r0 v1 vIota vIota5 vOne vZero
    (broadcast S16 (tv 0)) (broadcast S16 (tv 1)) (broadcast S16 (tv 2)) (broadcast S16 (tv 3)) (broadcast S16 (tv 4))
    (broadcast S16 (tv 5)) (broadcast S16 (tv 6)) (broadcast S16 (tv 7)) (broadcast S16 (tv 8)) (broadcast S16 (tv 9))
    (broadcast S16 (tv 10)) (broadcast S16 (tv 11)) (broadcast S16 (tv 12)) (broadcast S16 (tv 13)) (broadcast S16 (tv 14))
    (broadcast S16 (tv 15)) (broadcast S16 (tv 16)) (broadcast S16 (tv 17)) (broadcast S16 (tv 18)) c0 c1 t hA

theorem wp_trip (p : Fin k0_t2_loop.trips) (q : PosShare TreeShare) (g : Buf (Elt F) (a7.view.loc (V d (cV L) (jV L))))
    (s : Buf (Elt F) (a5.view.loc (V d (cV L) (jV L)))) :
    (iprop((a7.view.loc (V d (cV L) (jV L)) ↦{q} g) ∗ (a5.view.loc (V d (cV L) (jV L)) ↦{fullShare} s)) : sProp 𝕄)
      ⊢ wp frame (wpE (defs₀ (F := F)) 𝒱₀ (V d (cV L) (jV L)) none) Set.univ
          (trip L a2 h2 a3 h3 a4 h4 a5 h5 a6 h6 a7 h7 a8 h8 a9 h9 a10 a11 a12 a13 r0 v1 tv c0 c1 t hA p ⟨⟩)
          fun _ => iprop((a7.view.loc (V d (cV L) (jV L)) ↦{q} g)
            ∗ ∃ s', ⌜a5.view.read (Elt F) s' = tripVal tv p.val (a7.view.read (Elt F) g) (a5.view.read (Elt F) s)⌝
                ∗ (a5.view.loc (V d (cV L) (jV L)) ↦{fullShare} s')) := by
  unfold trip k0_t2_body
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret]
  iintro ⟨Hf, Hs⟩
  sl_exec
  have hx : ∀ r : Fin 16, a7.view.readAt (Elt F) (Rect.unit (s := S512) (k0_off3 p) S16.size (k0_off3_inb L t p hA)).toLoadRect g (ix1 r)
      = a7.view.read (Elt F) g (fbIx p r) := fun r => by
    rw [View.readAt_apply]
    refine congrArg (a7.view.read (Elt F) g) (funext fun a => Fin.ext ?_)
    match a with
    | ⟨0, _⟩ =>
      show (k0_off3 p) 0 + 1 * r.val = 16 * p.val + r.val
      rw [k0_off3_eq]
      show 16 * p.val + 1 * r.val = _
      omega
  sl_step
  isplitl [Hf]
  · iexact Hf
  iexists _
  isplitr [Hs]
  rotate_left
  · iexact Hs
  ipureintro
  funext y
  by_cases hy : 16 * p.val ≤ (y 0).val ∧ (y 0).val < 16 * p.val + 16
  · refine View.read_writes_apply_of_pieces (Val := Elt F) (e := .i32) _ _ (tripVal tv p.val (a7.view.read (Elt F) g) (a5.view.read (Elt F) s)) _ ?_ y ?_
    · simp only [List.forall_mem_cons]
      refine ⟨piece_hi tv p _ _ _ hx 15 (by decide) slices_S16_o15_S1 _ (k0_off5_eq p 15) _ _ rfl,
        piece_lo tv p _ _ _ hx 15 (by decide) slices_S16_o15_S1 _ (k0_off4_eq p 15) _ _ rfl,
        piece_hi tv p _ _ _ hx 14 (by decide) slices_S16_o14_S1 _ (k0_off5_eq p 14) _ _ rfl,
        piece_lo tv p _ _ _ hx 14 (by decide) slices_S16_o14_S1 _ (k0_off4_eq p 14) _ _ rfl,
        piece_hi tv p _ _ _ hx 13 (by decide) slices_S16_o13_S1 _ (k0_off5_eq p 13) _ _ rfl,
        piece_lo tv p _ _ _ hx 13 (by decide) slices_S16_o13_S1 _ (k0_off4_eq p 13) _ _ rfl,
        piece_hi tv p _ _ _ hx 12 (by decide) slices_S16_o12_S1 _ (k0_off5_eq p 12) _ _ rfl,
        piece_lo tv p _ _ _ hx 12 (by decide) slices_S16_o12_S1 _ (k0_off4_eq p 12) _ _ rfl,
        piece_hi tv p _ _ _ hx 11 (by decide) slices_S16_o11_S1 _ (k0_off5_eq p 11) _ _ rfl,
        piece_lo tv p _ _ _ hx 11 (by decide) slices_S16_o11_S1 _ (k0_off4_eq p 11) _ _ rfl,
        piece_hi tv p _ _ _ hx 10 (by decide) slices_S16_o10_S1 _ (k0_off5_eq p 10) _ _ rfl,
        piece_lo tv p _ _ _ hx 10 (by decide) slices_S16_o10_S1 _ (k0_off4_eq p 10) _ _ rfl,
        piece_hi tv p _ _ _ hx 9 (by decide) slices_S16_o9_S1 _ (k0_off5_eq p 9) _ _ rfl,
        piece_lo tv p _ _ _ hx 9 (by decide) slices_S16_o9_S1 _ (k0_off4_eq p 9) _ _ rfl,
        piece_hi tv p _ _ _ hx 8 (by decide) slices_S16_o8_S1 _ (k0_off5_eq p 8) _ _ rfl,
        piece_lo tv p _ _ _ hx 8 (by decide) slices_S16_o8_S1 _ (k0_off4_eq p 8) _ _ rfl,
        piece_hi tv p _ _ _ hx 7 (by decide) slices_S16_o7_S1 _ (k0_off5_eq p 7) _ _ rfl,
        piece_lo tv p _ _ _ hx 7 (by decide) slices_S16_o7_S1 _ (k0_off4_eq p 7) _ _ rfl,
        piece_hi tv p _ _ _ hx 6 (by decide) slices_S16_o6_S1 _ (k0_off5_eq p 6) _ _ rfl,
        piece_lo tv p _ _ _ hx 6 (by decide) slices_S16_o6_S1 _ (k0_off4_eq p 6) _ _ rfl,
        piece_hi tv p _ _ _ hx 5 (by decide) slices_S16_o5_S1 _ (k0_off5_eq p 5) _ _ rfl,
        piece_lo tv p _ _ _ hx 5 (by decide) slices_S16_o5_S1 _ (k0_off4_eq p 5) _ _ rfl,
        piece_hi tv p _ _ _ hx 4 (by decide) slices_S16_o4_S1 _ (k0_off5_eq p 4) _ _ rfl,
        piece_lo tv p _ _ _ hx 4 (by decide) slices_S16_o4_S1 _ (k0_off4_eq p 4) _ _ rfl,
        piece_hi tv p _ _ _ hx 3 (by decide) slices_S16_o3_S1 _ (k0_off5_eq p 3) _ _ rfl,
        piece_lo tv p _ _ _ hx 3 (by decide) slices_S16_o3_S1 _ (k0_off4_eq p 3) _ _ rfl,
        piece_hi tv p _ _ _ hx 2 (by decide) slices_S16_o2_S1 _ (k0_off5_eq p 2) _ _ rfl,
        piece_lo tv p _ _ _ hx 2 (by decide) slices_S16_o2_S1 _ (k0_off4_eq p 2) _ _ rfl,
        piece_hi tv p _ _ _ hx 1 (by decide) slices_S16_o1_S1 _ (k0_off5_eq p 1) _ _ rfl,
        piece_lo tv p _ _ _ hx 1 (by decide) slices_S16_o1_S1 _ (k0_off4_eq p 1) _ _ rfl,
        piece_hi tv p _ _ _ hx 0 (by decide) slices_S16_o0_S1 _ (k0_off5_eq p 0) _ _ rfl,
        piece_lo tv p _ _ _ hx 0 (by decide) slices_S16_o0_S1 _ (k0_off4_eq p 0) _ _ rfl, fun _ h => absurd h List.not_mem_nil⟩
    · have h21 : (y 1).val < 21 := (y 1).isLt
      have hk : (y 0).val = 16 * p.val + 0 ∨ (y 0).val = 16 * p.val + 1 ∨ (y 0).val = 16 * p.val + 2 ∨ (y 0).val = 16 * p.val + 3 ∨ (y 0).val = 16 * p.val + 4 ∨ (y 0).val = 16 * p.val + 5 ∨ (y 0).val = 16 * p.val + 6 ∨ (y 0).val = 16 * p.val + 7 ∨ (y 0).val = 16 * p.val + 8 ∨ (y 0).val = 16 * p.val + 9 ∨ (y 0).val = 16 * p.val + 10 ∨ (y 0).val = 16 * p.val + 11 ∨ (y 0).val = 16 * p.val + 12 ∨ (y 0).val = 16 * p.val + 13 ∨ (y 0).val = 16 * p.val + 14 ∨ (y 0).val = 16 * p.val + 15 := by omega
      by_cases hc : (y 1).val < 16
      · rcases hk with hk | hk | hk | hk | hk | hk | hk | hk | hk | hk | hk | hk | hk | hk | hk | hk
        · refine ⟨_, atIx 31 rfl, ?_⟩; exact mem_row _ _ 0 (k0_off4_eq p 0) (k0_off4_inb L t p hA 0) y hk (Nat.zero_le _) (by omega)
        · refine ⟨_, atIx 29 rfl, ?_⟩; exact mem_row _ _ 0 (k0_off4_eq p 1) (k0_off4_inb L t p hA 1) y hk (Nat.zero_le _) (by omega)
        · refine ⟨_, atIx 27 rfl, ?_⟩; exact mem_row _ _ 0 (k0_off4_eq p 2) (k0_off4_inb L t p hA 2) y hk (Nat.zero_le _) (by omega)
        · refine ⟨_, atIx 25 rfl, ?_⟩; exact mem_row _ _ 0 (k0_off4_eq p 3) (k0_off4_inb L t p hA 3) y hk (Nat.zero_le _) (by omega)
        · refine ⟨_, atIx 23 rfl, ?_⟩; exact mem_row _ _ 0 (k0_off4_eq p 4) (k0_off4_inb L t p hA 4) y hk (Nat.zero_le _) (by omega)
        · refine ⟨_, atIx 21 rfl, ?_⟩; exact mem_row _ _ 0 (k0_off4_eq p 5) (k0_off4_inb L t p hA 5) y hk (Nat.zero_le _) (by omega)
        · refine ⟨_, atIx 19 rfl, ?_⟩; exact mem_row _ _ 0 (k0_off4_eq p 6) (k0_off4_inb L t p hA 6) y hk (Nat.zero_le _) (by omega)
        · refine ⟨_, atIx 17 rfl, ?_⟩; exact mem_row _ _ 0 (k0_off4_eq p 7) (k0_off4_inb L t p hA 7) y hk (Nat.zero_le _) (by omega)
        · refine ⟨_, atIx 15 rfl, ?_⟩; exact mem_row _ _ 0 (k0_off4_eq p 8) (k0_off4_inb L t p hA 8) y hk (Nat.zero_le _) (by omega)
        · refine ⟨_, atIx 13 rfl, ?_⟩; exact mem_row _ _ 0 (k0_off4_eq p 9) (k0_off4_inb L t p hA 9) y hk (Nat.zero_le _) (by omega)
        · refine ⟨_, atIx 11 rfl, ?_⟩; exact mem_row _ _ 0 (k0_off4_eq p 10) (k0_off4_inb L t p hA 10) y hk (Nat.zero_le _) (by omega)
        · refine ⟨_, atIx 9 rfl, ?_⟩; exact mem_row _ _ 0 (k0_off4_eq p 11) (k0_off4_inb L t p hA 11) y hk (Nat.zero_le _) (by omega)
        · refine ⟨_, atIx 7 rfl, ?_⟩; exact mem_row _ _ 0 (k0_off4_eq p 12) (k0_off4_inb L t p hA 12) y hk (Nat.zero_le _) (by omega)
        · refine ⟨_, atIx 5 rfl, ?_⟩; exact mem_row _ _ 0 (k0_off4_eq p 13) (k0_off4_inb L t p hA 13) y hk (Nat.zero_le _) (by omega)
        · refine ⟨_, atIx 3 rfl, ?_⟩; exact mem_row _ _ 0 (k0_off4_eq p 14) (k0_off4_inb L t p hA 14) y hk (Nat.zero_le _) (by omega)
        · refine ⟨_, atIx 1 rfl, ?_⟩; exact mem_row _ _ 0 (k0_off4_eq p 15) (k0_off4_inb L t p hA 15) y hk (Nat.zero_le _) (by omega)
      · rcases hk with hk | hk | hk | hk | hk | hk | hk | hk | hk | hk | hk | hk | hk | hk | hk | hk
        · refine ⟨_, atIx 30 rfl, ?_⟩; exact mem_row _ _ 5 (k0_off5_eq p 0) (k0_off5_inb L t p hA 0) y hk (by omega) (by omega)
        · refine ⟨_, atIx 28 rfl, ?_⟩; exact mem_row _ _ 5 (k0_off5_eq p 1) (k0_off5_inb L t p hA 1) y hk (by omega) (by omega)
        · refine ⟨_, atIx 26 rfl, ?_⟩; exact mem_row _ _ 5 (k0_off5_eq p 2) (k0_off5_inb L t p hA 2) y hk (by omega) (by omega)
        · refine ⟨_, atIx 24 rfl, ?_⟩; exact mem_row _ _ 5 (k0_off5_eq p 3) (k0_off5_inb L t p hA 3) y hk (by omega) (by omega)
        · refine ⟨_, atIx 22 rfl, ?_⟩; exact mem_row _ _ 5 (k0_off5_eq p 4) (k0_off5_inb L t p hA 4) y hk (by omega) (by omega)
        · refine ⟨_, atIx 20 rfl, ?_⟩; exact mem_row _ _ 5 (k0_off5_eq p 5) (k0_off5_inb L t p hA 5) y hk (by omega) (by omega)
        · refine ⟨_, atIx 18 rfl, ?_⟩; exact mem_row _ _ 5 (k0_off5_eq p 6) (k0_off5_inb L t p hA 6) y hk (by omega) (by omega)
        · refine ⟨_, atIx 16 rfl, ?_⟩; exact mem_row _ _ 5 (k0_off5_eq p 7) (k0_off5_inb L t p hA 7) y hk (by omega) (by omega)
        · refine ⟨_, atIx 14 rfl, ?_⟩; exact mem_row _ _ 5 (k0_off5_eq p 8) (k0_off5_inb L t p hA 8) y hk (by omega) (by omega)
        · refine ⟨_, atIx 12 rfl, ?_⟩; exact mem_row _ _ 5 (k0_off5_eq p 9) (k0_off5_inb L t p hA 9) y hk (by omega) (by omega)
        · refine ⟨_, atIx 10 rfl, ?_⟩; exact mem_row _ _ 5 (k0_off5_eq p 10) (k0_off5_inb L t p hA 10) y hk (by omega) (by omega)
        · refine ⟨_, atIx 8 rfl, ?_⟩; exact mem_row _ _ 5 (k0_off5_eq p 11) (k0_off5_inb L t p hA 11) y hk (by omega) (by omega)
        · refine ⟨_, atIx 6 rfl, ?_⟩; exact mem_row _ _ 5 (k0_off5_eq p 12) (k0_off5_inb L t p hA 12) y hk (by omega) (by omega)
        · refine ⟨_, atIx 4 rfl, ?_⟩; exact mem_row _ _ 5 (k0_off5_eq p 13) (k0_off5_inb L t p hA 13) y hk (by omega) (by omega)
        · refine ⟨_, atIx 2 rfl, ?_⟩; exact mem_row _ _ 5 (k0_off5_eq p 14) (k0_off5_inb L t p hA 14) y hk (by omega) (by omega)
        · refine ⟨_, atIx 0 rfl, ?_⟩; exact mem_row _ _ 5 (k0_off5_eq p 15) (k0_off5_inb L t p hA 15) y hk (by omega) (by omega)
  · rw [View.read_writes_apply_of_forall_not_mem]
    · unfold tripVal; rw [if_neg hy]
    · simp only [List.forall_mem_cons]
      refine ⟨not_mem_row _ _ 5 (k0_off5_eq p 15) (k0_off5_inb L t p hA 15) y (by omega), not_mem_row _ _ 0 (k0_off4_eq p 15) (k0_off4_inb L t p hA 15) y (by omega), not_mem_row _ _ 5 (k0_off5_eq p 14) (k0_off5_inb L t p hA 14) y (by omega), not_mem_row _ _ 0 (k0_off4_eq p 14) (k0_off4_inb L t p hA 14) y (by omega), not_mem_row _ _ 5 (k0_off5_eq p 13) (k0_off5_inb L t p hA 13) y (by omega), not_mem_row _ _ 0 (k0_off4_eq p 13) (k0_off4_inb L t p hA 13) y (by omega), not_mem_row _ _ 5 (k0_off5_eq p 12) (k0_off5_inb L t p hA 12) y (by omega), not_mem_row _ _ 0 (k0_off4_eq p 12) (k0_off4_inb L t p hA 12) y (by omega), not_mem_row _ _ 5 (k0_off5_eq p 11) (k0_off5_inb L t p hA 11) y (by omega), not_mem_row _ _ 0 (k0_off4_eq p 11) (k0_off4_inb L t p hA 11) y (by omega), not_mem_row _ _ 5 (k0_off5_eq p 10) (k0_off5_inb L t p hA 10) y (by omega), not_mem_row _ _ 0 (k0_off4_eq p 10) (k0_off4_inb L t p hA 10) y (by omega), not_mem_row _ _ 5 (k0_off5_eq p 9) (k0_off5_inb L t p hA 9) y (by omega), not_mem_row _ _ 0 (k0_off4_eq p 9) (k0_off4_inb L t p hA 9) y (by omega), not_mem_row _ _ 5 (k0_off5_eq p 8) (k0_off5_inb L t p hA 8) y (by omega), not_mem_row _ _ 0 (k0_off4_eq p 8) (k0_off4_inb L t p hA 8) y (by omega), not_mem_row _ _ 5 (k0_off5_eq p 7) (k0_off5_inb L t p hA 7) y (by omega), not_mem_row _ _ 0 (k0_off4_eq p 7) (k0_off4_inb L t p hA 7) y (by omega), not_mem_row _ _ 5 (k0_off5_eq p 6) (k0_off5_inb L t p hA 6) y (by omega), not_mem_row _ _ 0 (k0_off4_eq p 6) (k0_off4_inb L t p hA 6) y (by omega), not_mem_row _ _ 5 (k0_off5_eq p 5) (k0_off5_inb L t p hA 5) y (by omega), not_mem_row _ _ 0 (k0_off4_eq p 5) (k0_off4_inb L t p hA 5) y (by omega), not_mem_row _ _ 5 (k0_off5_eq p 4) (k0_off5_inb L t p hA 4) y (by omega), not_mem_row _ _ 0 (k0_off4_eq p 4) (k0_off4_inb L t p hA 4) y (by omega), not_mem_row _ _ 5 (k0_off5_eq p 3) (k0_off5_inb L t p hA 3) y (by omega), not_mem_row _ _ 0 (k0_off4_eq p 3) (k0_off4_inb L t p hA 3) y (by omega), not_mem_row _ _ 5 (k0_off5_eq p 2) (k0_off5_inb L t p hA 2) y (by omega), not_mem_row _ _ 0 (k0_off4_eq p 2) (k0_off4_inb L t p hA 2) y (by omega), not_mem_row _ _ 5 (k0_off5_eq p 1) (k0_off5_inb L t p hA 1) y (by omega), not_mem_row _ _ 0 (k0_off4_eq p 1) (k0_off4_inb L t p hA 1) y (by omega), not_mem_row _ _ 5 (k0_off5_eq p 0) (k0_off5_inb L t p hA 0) y (by omega), not_mem_row _ _ 0 (k0_off4_eq p 0) (k0_off4_inb L t p hA 0) y (by omega), fun _ h => absurd h List.not_mem_nil⟩

end Trip

end Cert.Proof

end
-- ==== Proof.Loop.lean ====
/-
  The inner loop: its twenty-five trips fill the staging buffer with the one-hot rows of the four hundred fetched values.
-/
module

public import proofs.«01_k».proof.Proof.Trip

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The first `n` rows of a staging buffer are the one-hot rows of the first `n` values of a fetch buffer. -/
def Rows (tv : Fin 19 → F .f32) (n : ℕ) (g : S512.Idx → F .f32) (s : S400x21.Idx → BitVec 32) : Prop :=
  ∀ y : S400x21.Idx, (y 0).val < n → s y = hot (cntW tv (g (ix1 ⟨(y 0).val, lt_trans (y 0).isLt (by decide)⟩))) (y 1).val

/-- A trip extends them by sixteen. -/
theorem Rows.trip {tv : Fin 19 → F .f32} {p : ℕ} {g : S512.Idx → F .f32} {s : S400x21.Idx → BitVec 32} (h : Rows tv (16 * p) g s) :
    Rows tv (16 * (p + 1)) g (tripVal tv p g s) := by
  intro y hy
  unfold tripVal
  split_ifs with hc
  · rfl
  · exact h y (by omega)

variable (d : Dev nD) (L : grid0.Coords)

variable (a2 : Memref sig .scVector .hbm S1000000 .f32) (h2 : a2.IsWhole) (a3 : Memref sig .scVector .hbm S19 .f32) (h3 : a3.IsWhole)
  (a4 : Memref sig .scVector .hbm S1000000x21 .i32) (h4 : a4.IsWhole) (a5 : Memref sig .scVector .vmem S400x21 .i32) (h5 : a5.IsWhole)
  (a6 : Memref sig .scVector .vmem S400x21 .i32) (h6 : a6.IsWhole) (a7 : Memref sig .scVector .vmem S512 .f32) (h7 : a7.IsWhole)
  (a8 : Memref sig .scVector .vmem S512 .f32) (h8 : a8.IsWhole) (a9 : Memref sig .scVector .vmem S32 .f32) (h9 : a9.IsWhole)
  (a10 a11 a12 a13 r0 : DmaSems sig S_) (v1 : BitVec 32)
  (tv : Fin 19 → F .f32) (c0 c1 : BitVec 32) (t : Fin k0_t1_loop.trips) (hA : k0_cond4 L t = 1#1)

theorem wp_rows {Q : Unit → sProp 𝕄} (g : Buf (Elt F) (a7.view.loc (V d (cV L) (jV L)))) :
    (iprop(((a7.view.loc (V d (cV L) (jV L)) ↦{fullShare} g) ∗ ∃ s, (a5.view.loc (V d (cV L) (jV L)) ↦{fullShare} s))
      ∗ ((a7.view.loc (V d (cV L) (jV L)) ↦{fullShare} g)
          ∗ (∃ s, ⌜Rows tv 400 (a7.view.read (Elt F) g) (a5.view.read (Elt F) s)⌝ ∗ (a5.view.loc (V d (cV L) (jV L)) ↦{fullShare} s))
          -∗ Q ⟨⟩)) : sProp 𝕄)
      ⊢ wp frame (wpE (defs₀ (F := F)) 𝒱₀ (V d (cV L) (jV L)) none) Set.univ
          (Scf.Loop.for k0_t2_loop (k0_t2_ok L t hA) ⟨⟩
            (trip L a2 h2 a3 h3 a4 h4 a5 h5 a6 h6 a7 h7 a8 h8 a9 h9 a10 a11 a12 a13 r0 v1 tv c0 c1 t hA)) Q := by
  iintro ⟨⟨Hf, ⟨%s, Hs⟩⟩, HQ⟩
  iapply (Scf.wp_for frame (wpE (defs₀ (F := F)) 𝒱₀ (V d (cV L) (jV L)) none) Set.univ _ _ _ _ _ _
    (fun n _ => iprop((a7.view.loc (V d (cV L) (jV L)) ↦{fullShare} g)
      ∗ ∃ s, ⌜Rows tv (16 * n) (a7.view.read (Elt F) g) (a5.view.read (Elt F) s)⌝ ∗ (a5.view.loc (V d (cV L) (jV L)) ↦{fullShare} s)))
    (fun p _ => by
      iintro ⟨Hf, ⟨%s, %hs, Hs⟩⟩
      ihave Hw := (wp_trip d L a2 h2 a3 h3 a4 h4 a5 h5 a6 h6 a7 h7 a8 h8 a9 h9 a10 a11 a12 a13 r0 v1 tv c0 c1 t hA p fullShare g s) $$ [Hf Hs]
      · isplitl [Hf]; · iexact Hf
        iexact Hs
      iapply (wp_wand frame (wpE (defs₀ (F := F)) 𝒱₀ (V d (cV L) (jV L)) none) Set.univ) $$ Hw
      iintro %_ ⟨Hf, ⟨%s', %hs', Hs⟩⟩
      isplitl [Hf]; · iexact Hf
      iexists s'
      isplitr; · ipureintro; rw [hs']; exact hs.trip
      iexact Hs))
  isplitl [Hf Hs]
  · isplitl [Hf]; · iexact Hf
    iexists s
    isplitr; · ipureintro; exact fun y hy => absurd hy (by omega)
    iexact Hs
  iintro %_ ⟨Hf, Hs⟩
  iapply HQ
  isplitl [Hf]; · iexact Hf
  iexact Hs

end Cert.Proof
-- ==== Proof.Chunks.lean ====
/-
  The million rows in chunks of four hundred: the chunks as sets of rows, the rectangles the copies name, and the ownership of a
  family of chunks.
-/
module

public import proofs.«01_k».proof.Proof.Loop

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The arrays, and their chunks of four hundred rows -/

/-- The values, the thresholds and the result, in HBM. -/
abbrev fLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The values of chunk `k`, and its rows of the result. -/
def fset (k : ℕ) : Finset S1000000.Idx := Finset.univ.filter fun i => 400 * k ≤ (i 0).val ∧ (i 0).val < 400 * k + 400
def oset (k : ℕ) : Finset S1000000x21.Idx := Finset.univ.filter fun i => 400 * k ≤ (i 0).val ∧ (i 0).val < 400 * k + 400

theorem mem_fset {k : ℕ} {i : S1000000.Idx} : i ∈ fset k ↔ 400 * k ≤ (i 0).val ∧ (i 0).val < 400 * k + 400 := by
  simp [fset]
theorem mem_oset {k : ℕ} {i : S1000000x21.Idx} : i ∈ oset k ↔ 400 * k ≤ (i 0).val ∧ (i 0).val < 400 * k + 400 := by
  simp [oset]

theorem fset_disjoint {a b : ℕ} (h : a ≠ b) : Disjoint (fset a) (fset b) :=
  Finset.disjoint_left.mpr fun i ha hb => by rw [mem_fset] at ha hb; omega
theorem oset_disjoint {a b : ℕ} (h : a ≠ b) : Disjoint (oset a) (oset b) :=
  Finset.disjoint_left.mpr fun i ha hb => by rw [mem_oset] at ha hb; omega

/-- The result the kernel leaves: row `i` is the one-hot row of the count of value `i`. -/
def outVal (tv : Fin 19 → F .f32) (ff : S1000000.Idx → F .f32) : S1000000x21.Idx → BitVec 32 := fun i =>
  hot (cntW tv (ff (ix1 (i 0)))) (i 1).val

/-- The rectangle of chunk `k` in the values, and in the result. -/
theorem set_fslice (k : ℕ) (off : Fin 1 → ℕ) (hoff : off = ![400 * k]) (inb) :
    ((Memref.whole main_arg0_scv).slice (Rect.unit (s := S1000000) off S400.size inb) (fun _ => rfl)).view.set = fset k := by
  subst hoff
  show ((View.whole main_arg0_scv).slice (Rect.unit (s := S1000000) _ S400.size inb)).set = _
  rw [View.set_slice_whole]
  ext i
  rw [mem_fset]
  refine Rect.mem_set_unit.trans ⟨fun h => h 0, fun h a => ?_⟩
  match a with
  | ⟨0, _⟩ => exact h

theorem set_oslice (k : ℕ) (off : Fin 2 → ℕ) (hoff : off = ![400 * k, 0]) (inb) :
    ((Memref.whole main_v0_scv).slice (Rect.unit (s := S1000000x21) off S400x21.size inb) (fun _ => rfl)).view.set = oset k := by
  subst hoff
  show ((View.whole main_v0_scv).slice (Rect.unit (s := S1000000x21) _ S400x21.size inb)).set = _
  rw [View.set_slice_whole]
  ext i
  rw [mem_oset]
  refine Rect.mem_set_unit.trans ⟨fun h => h 0, fun h a => ?_⟩
  match a with
  | ⟨0, _⟩ => exact h
  | ⟨1, _⟩ => exact ⟨Nat.zero_le _, (i 1).isLt⟩

/-- Of the chunks, those worker `w` handles. -/
def mine (w : ℕ) : Finset ℕ := (Finset.range 2500).filter fun k => k % 32 = w
/-- Of those, the ones before chunk `n`. -/
def before (w n : ℕ) : Finset ℕ := (Finset.range n).filter fun k => k % 32 = w

theorem mem_mine {w k : ℕ} : k ∈ mine w ↔ k < 2500 ∧ k % 32 = w := by simp [mine]
theorem mem_before {w n k : ℕ} : k ∈ before w n ↔ k < n ∧ k % 32 = w := by simp [before]

/-- The values of the chunks in `S`, unchanged. -/
def Fhome (d : Dev nD) (ff : Buf (Elt F) (fLoc d)) (S : Finset ℕ) : sProp 𝕄 :=
  bigSep S fun k => iprop(fLoc d ↦[fset k]{fullShare} ff)

/-- The result rows of the chunks in `S`: final for those in `N`, as at the start for the others. -/
def Ohome (d : Dev nD) (fin o0 : Buf (Elt F) (oLoc d)) (S N : Finset ℕ) : sProp 𝕄 :=
  bigSep S fun k => iprop(oLoc d ↦[oset k]{fullShare} (if k ∈ N then fin else o0))

section
variable (d : Dev nD) (ff : Buf (Elt F) (fLoc d)) (fin o0 : Buf (Elt F) (oLoc d))
omit [FloatOps F]

theorem Fhome_take {S : Finset ℕ} {k : ℕ} (h : k ∈ S) :
    (Fhome d ff S : sProp 𝕄) = iprop((fLoc d ↦[fset k]{fullShare} ff) ∗ Fhome d ff (S.erase k)) :=
  SparseCore.bigSep_erase' h

theorem Ohome_take {S N : Finset ℕ} {k : ℕ} (h : k ∈ S) :
    (Ohome d fin o0 S N : sProp 𝕄)
      = iprop((oLoc d ↦[oset k]{fullShare} (if k ∈ N then fin else o0)) ∗ Ohome d fin o0 (S.erase k) N) :=
  SparseCore.bigSep_erase' h

/-- Which other chunks are final does not matter to a family. -/
theorem Ohome_congr {S N N' : Finset ℕ} (h : ∀ k ∈ S, (k ∈ N ↔ k ∈ N')) :
    (Ohome d fin o0 S N : sProp 𝕄) = Ohome d fin o0 S N' :=
  bigSep_congr fun k hk => by rw [if_congr (h k hk) rfl rfl]
end

end Cert.Proof
-- ==== Proof.Fetch.lean ====
/-
  The fetches: starting the copy of a chunk of values into a fetch buffer, and waiting for it.
-/
module

public import proofs.«01_k».proof.Proof.Chunks
public import Idealize.ShloMosaic.Lib.Transfers

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Fetching a chunk of values -/

section
variable (d : Dev nD) (L : grid0.Coords)

local notation "thr" => V d (cV L) (jV L)
local notation "WP" => wp frame (wpE (defs₀ (F := F)) 𝒱₀ (V d (cV L) (jV L)) none) Set.univ

/-- The first four hundred places of a fetch buffer: what a fetch fills. -/
abbrev head (a : Memref sig .scVector .vmem S512 .f32) : Memref sig .scVector .vmem S400 .f32 :=
  a.slice (Rect.unit (s := S512) ![0] S400.size inb_S512_S400_0) (fun _ => rfl)

/-- A fetch buffer's contents begin with the values of chunk `k`. -/
def Holds (ff : S1000000.Idx → F .f32) (k : ℕ) (g : S512.Idx → F .f32) : Prop :=
  ∀ (i : S512.Idx) (z : S1000000.Idx), (i 0).val < 400 → (z 0).val = 400 * k + (i 0).val → g i = ff z

/-- A fetch buffer with whatever it holds, no fetch under way. -/
def Fidle (a : Memref sig .scVector .vmem S512 .f32) (sem : DmaSem sig) : sProp 𝕄 :=
  iprop((∃ g, (a.view.loc thr ↦{fullShare} g)) ∗ semVal (thr, .dma sem) 0)

/-- A fetch buffer holding chunk `k`. -/
def Fbuf (ff : Buf (Elt F) (fLoc d)) (a : Memref sig .scVector .vmem S512 .f32) (k : ℕ) : sProp 𝕄 :=
  iprop(∃ g, ⌜Holds ff k (a.view.read (Elt F) g)⌝ ∗ (a.view.loc thr ↦{fullShare} g))

/-- The fetch of chunk `k` under way: when waited for, it gives the buffer holding the chunk, and the chunk's values back. -/
def Ffly (ff : Buf (Elt F) (fLoc d)) (a : Memref sig .scVector .vmem S512 .f32) (sem : DmaSem sig) (k : ℕ) : sProp 𝕄 :=
  Transfers.Flight countersEmb thr (.dma sem) none (head a).view.dmaCredit
    iprop(Fbuf d L ff a k ∗ (fLoc d ↦[fset k]{fullShare} ff))

/-- What a fetch writes. -/
theorem holds_fetch (ff : S1000000.Idx → F .f32) (k : ℕ) (off : Fin 1 → ℕ) (hoff : off = ![400 * k]) (inb)
    (a : Memref sig .scVector .vmem S512 .f32) (g : Buf (Elt F) (a.view.loc thr)) (via : S400.Idx → F .f32)
    (hvia : ∀ x, via x
      = ((Memref.whole main_arg0_scv).slice (Rect.unit (s := S1000000) off S400.size inb) (fun _ => rfl)).view.read (Elt F) ff x) :
    Holds ff k (a.view.read (Elt F) ((head a).view.write (Elt F) g via Finset.univ)) := by
  subst hoff
  intro i z hi hz
  have he : (Rect.unit (s := S512) ![0] S400.size inb_S512_S400_0).emb (ix1 ⟨(i 0).val, hi⟩) = i := by
    funext c
    match c with
    | ⟨0, _⟩ => exact Fin.ext (by show 0 + 1 * (i 0).val = (i 0).val; omega)
  refine (congrArg (a.view.read (Elt F) _) he.symm).trans ?_
  refine (View.read_slice_write_emb (Val := Elt F) (v := a.view) (Rect.unit (s := S512) ![0] S400.size inb_S512_S400_0) g via
    (Finset.mem_univ _)).trans ?_
  rw [hvia]
  show ff _ = ff z
  refine congrArg ff (funext fun c => ?_)
  match c with
  | ⟨0, _⟩ => exact Fin.ext (by show 400 * k + 1 * (i 0).val = (z 0).val; omega)

theorem pts_fslice (ff : Buf (Elt F) (fLoc d)) (k : ℕ) (off : Fin 1 → ℕ) (hoff : off = ![400 * k]) (inb) :
    ((fLoc d ↦[fset k]{fullShare} ff) : sProp 𝕄)
      = (((Memref.whole main_arg0_scv).slice (Rect.unit (s := S1000000) off S400.size inb) (fun _ => rfl)).view.loc thr
          ↦[((Memref.whole main_arg0_scv).slice (Rect.unit (s := S1000000) off S400.size inb) (fun _ => rfl)).view.set]{fullShare} ff) :=
  congrArg (fun S : Finset S1000000.Idx => ((fLoc d ↦[S]{fullShare} ff) : sProp 𝕄)) (set_fslice k off hoff inb).symm

/-- Starting a fetch. -/
theorem op_fetch (ff : Buf (Elt F) (fLoc d)) (k : ℕ) (off : Fin 1 → ℕ) (hoff : off = ![400 * k]) (inb)
    (a : Memref sig .scVector .vmem S512 .f32) (sem : DmaSem sig) {hs hd ht} {α : Type}
    {kk : PUnit → Prog (TpuEff nD τ sig (Elt F) Λ₀ (thr).2) α} {Q : α → sProp 𝕄} :
    (iprop(Fidle d L a sem ∗ (fLoc d ↦[fset k]{fullShare} ff)) : sProp 𝕄)
      ⊢ iprop((Ffly d L ff a sem k -∗ WP (kk ⟨⟩) Q)
        -∗ WP (.op (.enqueueDma ((Memref.whole main_arg0_scv).slice (Rect.unit (s := S1000000) off S400.size inb) (fun _ => rfl))
            (.here (head a)) (.dma sem) hs hd ht) kk) Q) := by
  unfold Fidle
  iintro ⟨⟨⟨%g, Hg⟩, Hsem⟩, Hf⟩ HK
  ihave Hf' := (Entails.of_eq (pts_fslice d L ff k off hoff inb)) $$ Hf
  iapply (Transfers.wp_dmaLocal countersEmb 𝒱₀ thr none (none : HIx 1) (head a).view.dmaCredit rfl
    (View.dmaCredit_pos _ (show 0 < S400.numel by decide)) (Finset.subset_univ _)) $$ [Hf' Hg Hsem]
  · isplitl [Hf']; · iexact Hf'
    isplitl [Hg]; · iexact Hg
    iexact Hsem
  iintro Hfl
  iapply HK
  unfold Ffly Fbuf
  iapply (Transfers.Flight_mono countersEmb ?_) $$ Hfl
  iintro ⟨Hg, Hf⟩
  isplitl [Hg]
  · iexists _
    isplitr
    rotate_left
    · iexact Hg
    ipureintro
    exact holds_fetch d L ff k off hoff inb a g _ (fun _ => rfl)
  iapply (Entails.of_eq (pts_fslice d L ff k off hoff inb).symm) $$ Hf

/-- Waiting for it. -/
theorem op_fwait (ff : Buf (Elt F) (fLoc d)) (k : ℕ) (a : Memref sig .scVector .vmem S512 .f32) (sem : DmaSem sig)
    {O : CellTallies nD τ sig (HIx 1)} {W : Waits sig (HIx 1)}
    {src : Memref sig .scVector .hbm S400 .f32} {hs hd} {α : Type}
    {kk : PUnit → Prog (TpuEff nD τ sig (Elt F) Λ₀ (thr).2) α} {Q : α → sProp 𝕄} :
    (iprop(Ffly d L ff a sem k ∗ owes thr O W ∗ Transfers.MayWaits thr none O) : sProp 𝕄)
      ⊢ iprop((iprop((Fbuf d L ff a k ∗ semVal (thr, .dma sem) 0) ∗ (fLoc d ↦[fset k]{fullShare} ff)
              ∗ owes thr O (insert (SemLoc.dma sem, none) W)) -∗ WP (kk ⟨⟩) Q)
        -∗ WP (.op (.waitDma2 sem src (head a) hs hd) kk) Q) := by
  unfold Ffly
  iintro ⟨Hfl, HO, Hmw⟩ HK
  iapply (Transfers.wp_waitLocalO countersEmb 𝒱₀ thr none (none : HIx 1) (rfl : (head a).view.dmaCredit = _)) $$ [Hfl HO Hmw]
  · isplitl [Hfl]; · iexact Hfl
    isplitl [HO]; · iexact HO
    iapply (Transfers.MayWaits.elim (.dma sem)) $$ Hmw
  iintro ⟨⟨Hb, Hf⟩, Hsem, HO⟩
  iapply HK
  isplitl [Hb Hsem]
  · isplitl [Hb]; · iexact Hb
    iexact Hsem
  isplitl [Hf]; · iexact Hf
  iexact HO

end

end Cert.Proof
-- ==== Proof.Output.lean ====
/-
  The copies out: starting the copy of four hundred finished rows to the result, and waiting for it.
-/
module

public import proofs.«01_k».proof.Proof.Fetch

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section
variable (d : Dev nD) (L : grid0.Coords)

local notation "thr" => V d (cV L) (jV L)
local notation "WP" => wp frame (wpE (defs₀ (F := F)) 𝒱₀ (V d (cV L) (jV L)) none) Set.univ

/-- The rows of the result from `off`: what a copy out of a staging buffer fills. -/
abbrev orect (off : Fin 2 → ℕ) (inb : ∀ a, off a + S400x21.size a ≤ S1000000x21.size a) : Memref sig .scVector .hbm S400x21 .i32 :=
  (Memref.whole main_v0_scv).slice (Rect.unit (s := S1000000x21) off S400x21.size inb) (fun _ => rfl)

/-- What a copy out of a staging buffer credits its semaphore. -/
abbrev ocredit : ℕ := (orect ![0, 0] inb_S1000000x21_S400x21_0_0).view.dmaCredit

/-- A staging buffer with whatever it holds. -/
def Obuf (a : Memref sig .scVector .vmem S400x21 .i32) : sProp 𝕄 := iprop(∃ s, (a.view.loc thr ↦{fullShare} s))

/-- A staging buffer, no copy out of it under way. -/
def Oidle (a : Memref sig .scVector .vmem S400x21 .i32) (sem : DmaSem sig) : sProp 𝕄 :=
  iprop(Obuf d L a ∗ semVal (thr, .dma sem) 0)

/-- The copy of the rows of chunk `k` under way: when waited for, it gives the staging buffer back, and the rows final. -/
def Ofly (fin : Buf (Elt F) (oLoc d)) (a : Memref sig .scVector .vmem S400x21 .i32) (sem : DmaSem sig) (k : ℕ) : sProp 𝕄 :=
  Transfers.Flight countersEmb thr (.dma sem) none ocredit
    iprop(Obuf d L a ∗ (oLoc d ↦[oset k]{fullShare} fin))

theorem pts_oslice (o : Buf (Elt F) (oLoc d)) (k : ℕ) (off : Fin 2 → ℕ) (hoff : off = ![400 * k, 0]) (inb) :
    ((oLoc d ↦[oset k]{fullShare} o) : sProp 𝕄) = ((orect off inb).view.loc thr ↦[(orect off inb).view.set]{fullShare} o) :=
  congrArg (fun S : Finset S1000000x21.Idx => ((oLoc d ↦[S]{fullShare} o) : sProp 𝕄)) (set_oslice k off hoff inb).symm

/-- The rows a staging buffer holds for chunk `k` are the chunk's rows of the result. -/
theorem out_rows (tv : Fin 19 → F .f32) (ff : S1000000.Idx → F .f32) (k : ℕ) (off : Fin 2 → ℕ) (hoff : off = ![400 * k, 0]) (inb)
    (g : S512.Idx → F .f32) (s via : S400x21.Idx → BitVec 32) (o : Buf (Elt F) (oLoc d)) (hvia : via = s)
    (hs : Rows tv 400 g s) (hg : Holds ff k g) :
    ∀ i ∈ oset k, (orect off inb).view.write (Elt F) o via Finset.univ i = outVal tv ff i := by
  subst hoff hvia
  intro i hi
  rw [mem_oset] at hi
  have h1 : (i 1).val < 21 := (i 1).isLt
  have h0 : (i 0).val < 1000000 := (i 0).isLt
  have he : (orect ![400 * k, 0] inb).view.emb (ix2 ⟨(i 0).val - 400 * k, by omega⟩ ⟨(i 1).val, h1⟩) = i := by
    funext c
    match c with
    | ⟨0, _⟩ => exact Fin.ext (by show 400 * k + 1 * ((i 0).val - 400 * k) = (i 0).val; omega)
    | ⟨1, _⟩ => exact Fin.ext (by show 0 + 1 * (i 1).val = (i 1).val; omega)
  refine (congrArg _ he.symm).trans ?_
  refine (View.write_emb_of_mem (Val := Elt F) (v := (orect ![400 * k, 0] inb).view) o via (Finset.mem_univ _)).trans ?_
  show via _ = _
  rw [hs _ (by show (i 0).val - 400 * k < 400; omega)]
  unfold outVal
  rw [hg _ (ix1 (i 0)) (by show (i 0).val - 400 * k < 400; omega) (by show (i 0).val = 400 * k + ((i 0).val - 400 * k); omega)]

/-- Starting the copy out. -/
theorem op_out (tv : Fin 19 → F .f32) (ff : Buf (Elt F) (fLoc d)) (k : ℕ) (off : Fin 2 → ℕ) (hoff : off = ![400 * k, 0]) (inb)
    (a : Memref sig .scVector .vmem S400x21 .i32) (ha : a.IsWhole) (sem : DmaSem sig)
    (g : S512.Idx → F .f32) (s : Buf (Elt F) (a.view.loc thr)) (o : Buf (Elt F) (oLoc d))
    (hs' : Rows tv 400 g (a.view.read (Elt F) s)) (hg : Holds ff k g) {hs hd ht} {α : Type}
    {kk : PUnit → Prog (TpuEff nD τ sig (Elt F) Λ₀ (thr).2) α} {Q : α → sProp 𝕄} :
    (iprop(((a.view.loc thr ↦{fullShare} s) ∗ semVal (thr, .dma sem) 0) ∗ (oLoc d ↦[oset k]{fullShare} o)) : sProp 𝕄)
      ⊢ iprop((Ofly d L (outVal tv ff) a sem k -∗ WP (kk ⟨⟩) Q)
        -∗ WP (.op (.enqueueDma a (.here (orect off inb)) (.dma sem) hs hd ht) kk) Q) := by
  iintro ⟨⟨Hs, Hsem⟩, Ho⟩ HK
  ihave Ho' := (Entails.of_eq (pts_oslice d L o k off hoff inb)) $$ Ho
  ihave Hs' := (Entails.of_eq (show ((a.view.loc thr ↦{fullShare} s) : sProp 𝕄) = (a.view.loc thr ↦[a.view.set]{fullShare} s) by
    rw [ha.set_eq_univ])) $$ Hs
  iapply (Transfers.wp_dmaLocal countersEmb 𝒱₀ thr none (none : HIx 1) ocredit rfl
    (View.dmaCredit_pos _ (show 0 < S400x21.numel by decide)) (Finset.Subset.refl _)) $$ [Ho' Hs' Hsem]
  · isplitl [Hs']; · iexact Hs'
    isplitl [Ho']; · iexact Ho'
    iexact Hsem
  iintro Hfl
  iapply HK
  unfold Ofly Obuf
  iapply (Transfers.Flight_mono countersEmb ?_) $$ Hfl
  iintro ⟨Ho, Hs⟩
  isplitl [Hs]
  · iexists s
    iapply (Entails.of_eq (show ((a.view.loc thr ↦[a.view.set]{fullShare} s) : sProp 𝕄) = (a.view.loc thr ↦{fullShare} s) by
      rw [ha.set_eq_univ])) $$ Hs
  ihave Ho' := (Entails.of_eq (pts_oslice d L _ k off hoff inb).symm) $$ Ho
  iapply (Entails.of_eq (pointsTo_congr (out_rows d tv ff k off hoff inb g _ _ o rfl hs' hg))) $$ Ho'

/-- Waiting for it. -/
theorem op_owait (fin : Buf (Elt F) (oLoc d)) (k : ℕ) (a : Memref sig .scVector .vmem S400x21 .i32) (sem : DmaSem sig)
    {O : CellTallies nD τ sig (HIx 1)} {W : Waits sig (HIx 1)}
    {src : Memref sig .scVector .vmem S400x21 .i32} {hs hd} {α : Type}
    {kk : PUnit → Prog (TpuEff nD τ sig (Elt F) Λ₀ (thr).2) α} {Q : α → sProp 𝕄} :
    (iprop(Ofly d L fin a sem k ∗ owes thr O W ∗ Transfers.MayWaits thr none O) : sProp 𝕄)
      ⊢ iprop((iprop(Oidle d L a sem ∗ (oLoc d ↦[oset k]{fullShare} fin) ∗ owes thr O (insert (SemLoc.dma sem, none) W))
            -∗ WP (kk ⟨⟩) Q)
        -∗ WP (.op (.waitDma2 sem src (orect ![0, 0] inb_S1000000x21_S400x21_0_0) hs hd) kk) Q) := by
  unfold Ofly Oidle
  iintro ⟨Hfl, HO, Hmw⟩ HK
  iapply (Transfers.wp_waitLocalO countersEmb 𝒱₀ thr none (none : HIx 1) (rfl : ocredit = _)) $$ [Hfl HO Hmw]
  · isplitl [Hfl]; · iexact Hfl
    isplitl [HO]; · iexact HO
    iapply (Transfers.MayWaits.elim (.dma sem)) $$ Hmw
  iintro ⟨⟨Hb, Ho⟩, Hsem, HO⟩
  iapply HK
  isplitl [Hb Hsem]
  · isplitl [Hb]; · iexact Hb
    iexact Hsem
  isplitl [Ho]; · iexact Ho
  iexact HO

end

end Cert.Proof
-- ==== Proof.Stages.lean ====
/-
  The steps of one trip of the main loop, each under its condition: fetch, wait for a fetch, wait for a copy out, compute and copy out.
-/
module

public import proofs.«01_k».proof.Proof.Output

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section
variable (d : Dev nD) (L : grid0.Coords)

local notation "thr" => V d (cV L) (jV L)
local notation "WP" => wp frame (wpE (defs₀ (F := F)) 𝒱₀ (V d (cV L) (jV L)) none) Set.univ

/-! ## The state of a buffer, by a chunk number; a number past the last chunk says that nothing is under way -/

/-- Chunk `k` is on its way into fetch buffer `a`. -/
def FSt (ff : Buf (Elt F) (fLoc d)) (a : Memref sig .scVector .vmem S512 .f32) (sem : DmaSem sig) (k : ℕ) : sProp 𝕄 :=
  if k < 2500 then Ffly d L ff a sem k else Fidle d L a sem

/-- Chunk `k` has arrived in fetch buffer `a`. -/
def FFull (ff : Buf (Elt F) (fLoc d)) (a : Memref sig .scVector .vmem S512 .f32) (sem : DmaSem sig) (k : ℕ) : sProp 𝕄 :=
  if k < 2500 then iprop(Fbuf d L ff a k ∗ semVal (thr, .dma sem) 0) else Fidle d L a sem

/-- The rows of chunk `k` are on their way out of staging buffer `a`. -/
def OSt (fin : Buf (Elt F) (oLoc d)) (a : Memref sig .scVector .vmem S400x21 .i32) (sem : DmaSem sig) (k : ℕ) : sProp 𝕄 :=
  if k < 2500 then Ofly d L fin a sem k else Oidle d L a sem

/-- What the tile owes the launch, unchanged; of the waits done, those beyond `W` are the kernel's own. -/
def Owed (O : CellTallies nD τ sig (HIx 1)) (W : Waits sig (HIx 1)) : sProp 𝕄 :=
  iprop(∃ W' : Waits sig (HIx 1), ⌜∀ p ∈ W', p ∈ W ∨ p.2 = none⌝ ∗ owes thr O W')

/-! ## The steps of a trip -/

variable (ff : Buf (Elt F) (fLoc d)) (tv : Fin 19 → F .f32) (o0 : Buf (Elt F) (oLoc d))
  {O : CellTallies nD τ sig (HIx 1)} {W : Waits sig (HIx 1)}

theorem ret_intro {α : Type} {a : α} {Q : α → sProp 𝕄} : Q a ⊢ WP (.ret a) Q := by
  rw [wp_ret]; exact fupd_intro

/-- A step under a condition: what the branch taken needs is a matter of the condition only. -/
theorem stage_dite {β : Type} {c : Prop} [Decidable c] {e₁ : c → Prog (TpuEff nD τ sig (Elt F) Λ₀ (thr).2) β}
    {k : Prog (TpuEff nD τ sig (Elt F) Λ₀ (thr).2) β} {A B : sProp 𝕄} {Q : β → sProp 𝕄}
    (h1 : ∀ h, iprop(A ∗ (B -∗ WP k Q)) ⊢ WP (e₁ h) Q) (h2 : ¬ c → A ⊢ B) :
    iprop(A ∗ (B -∗ WP k Q)) ⊢ WP (dite c e₁ fun _ => k) Q := by
  by_cases h : c
  · rw [dif_pos h]; exact h1 h
  · rw [dif_neg h]
    iintro ⟨HA, HQ⟩
    iapply HQ
    iapply (h2 h) $$ HA

/-- Start fetching chunk `k`, if there is one. -/
theorem stage_fetch {c : Prop} [Decidable c] (k : ℕ) (hc : c ↔ k < 2500) (S : Finset ℕ) (hS : k < 2500 → k ∈ S) (hS' : ∀ j ∈ S, j < 2500)
    (off : Fin 1 → ℕ) (hoff : c → off = ![400 * k]) (inb : c → ∀ a, off a + S400.size a ≤ S1000000.size a)
    (a : Memref sig .scVector .vmem S512 .f32) (sem : DmaSem sig)
    {hs : ∀ h, ((Memref.whole main_arg0_scv).slice (Rect.unit (s := S1000000) off S400.size (inb h)) (fun _ => rfl)).view.WordExact}
    {hd : c → (head a).view.WordExact} {ht : c → (DmaTarget.here (head a) : DmaTarget nD τ sig (thr).2 .vmem S400 .f32).Typed .hbm (.dma sem)} {β : Type} {rest : Prog (TpuEff nD τ sig (Elt F) Λ₀ (thr).2) β} {Q : β → sProp 𝕄} :
    (iprop((Fidle d L a sem ∗ Fhome d ff S) ∗ ((FSt d L ff a sem k ∗ Fhome d ff (S.erase k)) -∗ WP rest Q)) : sProp 𝕄)
      ⊢ WP (if h : c then do
            Prog.lift (.enqueueDma ((Memref.whole main_arg0_scv).slice (Rect.unit (s := S1000000) off S400.size (inb h)) (fun _ => rfl))
              (.here (head a)) (.dma sem) (hs h) (hd h) (ht h))
            rest
          else rest) Q := by
  refine stage_dite d L (fun h => ?_) (fun h => ?_)
  · have hk := hc.mp h
    simp only [Prog.lift, Prog.bind_op, Prog.bind_ret, Prog.pure_eq_ret]
    rw [FSt, if_pos hk, Fhome_take d ff (hS hk)]
    iintro ⟨⟨Hi, Hk, Hh⟩, HQ⟩
    iapply (op_fetch d L ff k off (hoff h) (inb h) a sem) $$ [Hi Hk]
    · isplitl [Hi]; · iexact Hi
      iexact Hk
    iintro Hfl
    iapply HQ
    isplitl [Hfl]; · iexact Hfl
    iexact Hh
  · have hk : ¬ k < 2500 := fun hk => h (hc.mpr hk)
    rw [FSt, if_neg hk, Finset.erase_eq_of_notMem fun hm => hk (hS' k hm)]

/-- Wait for chunk `k`, if there is one. -/
theorem stage_fwait {c : Prop} [Decidable c] (k : ℕ) (hc : c ↔ k < 2500) (S : Finset ℕ) (hS : k < 2500 → k ∈ S) (hS' : ∀ j ∈ S, j < 2500)
    (a : Memref sig .scVector .vmem S512 .f32) (sem : DmaSem sig) {src : c → Memref sig .scVector .hbm S400 .f32}
    {hs : ∀ h, (src h).view.WordExact} {hd : c → _} {β : Type} {rest : Prog (TpuEff nD τ sig (Elt F) Λ₀ (thr).2) β} {Q : β → sProp 𝕄} :
    (iprop((FSt d L ff a sem k ∗ Fhome d ff (S.erase k) ∗ Owed d L O W ∗ Transfers.MayWaits thr none O)
        ∗ ((FFull d L ff a sem k ∗ Fhome d ff S ∗ Owed d L O W) -∗ WP rest Q)) : sProp 𝕄)
      ⊢ WP (if h : c then do
            Prog.lift (.waitDma2 sem (src h) (head a) (hs h) (hd h))
            rest
          else rest) Q := by
  refine stage_dite d L (fun h => ?_) (fun h => ?_)
  · have hk := hc.mp h
    simp only [Prog.lift, Prog.bind_op, Prog.bind_ret, Prog.pure_eq_ret]
    rw [FSt, if_pos hk, FFull, if_pos hk, Fhome_take d ff (hS hk)]
    unfold Owed
    iintro ⟨⟨Hfl, Hh, ⟨%W', %hW', HO⟩, Hmw⟩, HQ⟩
    iapply (op_fwait d L ff k a sem) $$ [Hfl HO Hmw]
    · isplitl [Hfl]; · iexact Hfl
      isplitl [HO]; · iexact HO
      iexact Hmw
    iintro ⟨Hb, Hk, HO⟩
    iapply HQ
    isplitl [Hb]; · iexact Hb
    isplitl [Hk Hh]
    · isplitl [Hk]; · iexact Hk
      iexact Hh
    iexists (insert (SemLoc.dma sem, (none : HIx 1)) W')
    isplitr
    · ipureintro
      intro p hp
      rcases Finset.mem_insert.mp hp with rfl | hp
      · exact .inr rfl
      · exact hW' p hp
    iexact HO
  · have hk : ¬ k < 2500 := fun hk => h (hc.mpr hk)
    rw [FSt, if_neg hk, FFull, if_neg hk, Finset.erase_eq_of_notMem fun hm => hk (hS' k hm)]
    iintro ⟨Hi, Hh, HO, -⟩
    isplitl [Hi]; · iexact Hi
    isplitl [Hh]; · iexact Hh
    iexact HO

/-- A copy out of a staging buffer, waited for. -/
theorem wait_out (j : ℕ) (hj : j < 2500) (S N : Finset ℕ) (hS : j ∈ S) (hN : j ∈ N)
    (a : Memref sig .scVector .vmem S400x21 .i32) (sem : DmaSem sig) {src : Memref sig .scVector .vmem S400x21 .i32}
    {hs hd} {α : Type} {kk : PUnit → Prog (TpuEff nD τ sig (Elt F) Λ₀ (thr).2) α} {Q : α → sProp 𝕄} :
    (iprop((OSt d L (outVal tv ff) a sem j ∗ Ohome d (outVal tv ff) o0 (S.erase j) N ∗ Owed d L O W ∗ Transfers.MayWaits thr none O)
        ∗ ((Oidle d L a sem ∗ Ohome d (outVal tv ff) o0 S N ∗ Owed d L O W) -∗ WP (kk ⟨⟩) Q)) : sProp 𝕄)
      ⊢ WP (.op (.waitDma2 sem src (orect ![0, 0] inb_S1000000x21_S400x21_0_0) hs hd) kk) Q := by
  rw [OSt, if_pos hj, Ohome_take d _ o0 hS, if_pos hN]
  unfold Owed
  iintro ⟨⟨Hfl, Hh, ⟨%W', %hW', HO⟩, Hmw⟩, HQ⟩
  iapply (op_owait d L (outVal tv ff) j a sem) $$ [Hfl HO Hmw]
  · isplitl [Hfl]; · iexact Hfl
    isplitl [HO]; · iexact HO
    iexact Hmw
  iintro ⟨Hb, Hk, HO⟩
  iapply HQ
  isplitl [Hb]; · iexact Hb
  isplitl [Hk Hh]
  · isplitl [Hk]; · iexact Hk
    iexact Hh
  iexists (insert (SemLoc.dma sem, (none : HIx 1)) W')
  isplitr
  · ipureintro
    intro p hp
    rcases Finset.mem_insert.mp hp with rfl | hp
    · exact .inr rfl
    · exact hW' p hp
  iexact HO

/-- The same under a condition: `j'` says what is under way afterwards. -/
theorem stage_owait {c : Prop} [Decidable c] (j j' : ℕ) (hj : c → j < 2500) (h1 : c → ¬ j' < 2500) (h2 : ¬ c → j' = j)
    (S N : Finset ℕ) (hS : c → j ∈ S) (hS' : ∀ j ∈ S, j < 2500) (hN : c → j ∈ N)
    (a : Memref sig .scVector .vmem S400x21 .i32) (sem : DmaSem sig) {src : c → Memref sig .scVector .vmem S400x21 .i32}
    {hs : ∀ h, (src h).view.WordExact} {hd : c → _} {β : Type} {rest : Prog (TpuEff nD τ sig (Elt F) Λ₀ (thr).2) β} {Q : β → sProp 𝕄} :
    (iprop((OSt d L (outVal tv ff) a sem j ∗ Ohome d (outVal tv ff) o0 (S.erase j) N ∗ Owed d L O W ∗ Transfers.MayWaits thr none O)
        ∗ ((OSt d L (outVal tv ff) a sem j' ∗ Ohome d (outVal tv ff) o0 (S.erase j') N ∗ Owed d L O W) -∗ WP rest Q)) : sProp 𝕄)
      ⊢ WP (if h : c then do
            Prog.lift (.waitDma2 sem (src h) (orect ![0, 0] inb_S1000000x21_S400x21_0_0) (hs h) (hd h))
            rest
          else rest) Q := by
  refine stage_dite d L (fun h => ?_) (fun h => ?_)
  · simp only [Prog.lift, Prog.bind_op, Prog.bind_ret, Prog.pure_eq_ret]
    iintro ⟨HA, HQ⟩
    iapply (wait_out d L ff tv o0 j (hj h) S N (hS h) (hN h) a sem)
    isplitl [HA]; · iexact HA
    iintro ⟨Hb, Hh, HO⟩
    iapply HQ
    rw [OSt, if_neg (h1 h), Finset.erase_eq_of_notMem fun hm => h1 h (hS' j' hm)]
    isplitl [Hb]; · iexact Hb
    isplitl [Hh]; · iexact Hh
    iexact HO
  · rw [h2 h]
    iintro ⟨Hi, Hh, HO, -⟩
    isplitl [Hi]; · iexact Hi
    isplitl [Hh]; · iexact Hh
    iexact HO

/-- Compute the rows of chunk `k` from its fetch buffer and start their copy out, if there is a chunk `k`. -/
theorem stage_out {c : Prop} [Decidable c] (k : ℕ) (hc : c ↔ k < 2500) (j j' : ℕ) (hj : k < 2500 → ¬ j < 2500)
    (h1 : k < 2500 → j' = k) (h2 : ¬ k < 2500 → j' = j)
    (S N : Finset ℕ) (hS : k < 2500 → k ∈ S) (hS' : ∀ j ∈ S, j < 2500)
    (fb : Memref sig .scVector .vmem S512 .f32) (semf : DmaSem sig)
    (a : Memref sig .scVector .vmem S400x21 .i32) (ha : a.IsWhole) (sem : DmaSem sig)
    {e : c → Prog (TpuEff nD τ sig (Elt F) Λ₀ (thr).2) Unit}
    (he : ∀ (h : c) (g : Buf (Elt F) (fb.view.loc thr)) (Q : Unit → sProp 𝕄),
      (iprop(((fb.view.loc thr ↦{fullShare} g) ∗ ∃ s, (a.view.loc thr ↦{fullShare} s))
        ∗ ((fb.view.loc thr ↦{fullShare} g)
            ∗ (∃ s, ⌜Rows tv 400 (fb.view.read (Elt F) g) (a.view.read (Elt F) s)⌝ ∗ (a.view.loc thr ↦{fullShare} s)) -∗ Q ⟨⟩)) : sProp 𝕄)
        ⊢ WP (e h) Q)
    (off : Fin 2 → ℕ) (hoff : c → off = ![400 * k, 0]) (inb : c → ∀ a, off a + S400x21.size a ≤ S1000000x21.size a)
    {hs : c → a.view.WordExact} {hd : ∀ h, (orect off (inb h)).view.WordExact}
    {ht : ∀ h, (DmaTarget.here (orect off (inb h)) : DmaTarget nD τ sig (thr).2 .hbm S400x21 .i32).Typed .vmem (.dma sem)} {β : Type} {rest : Prog (TpuEff nD τ sig (Elt F) Λ₀ (thr).2) β} {Q : β → sProp 𝕄} :
    (iprop((FFull d L ff fb semf k ∗ OSt d L (outVal tv ff) a sem j ∗ Ohome d (outVal tv ff) o0 (S.erase j) N)
        ∗ ((Fidle d L fb semf ∗ OSt d L (outVal tv ff) a sem j' ∗ Ohome d (outVal tv ff) o0 (S.erase j') (insert k N)) -∗ WP rest Q)) : sProp 𝕄)
      ⊢ WP (if h : c then do
            e h
            Prog.lift (.enqueueDma a (.here (orect off (inb h))) (.dma sem) (hs h) (hd h) (ht h))
            rest
          else rest) Q := by
  refine stage_dite d L (fun h => ?_) (fun h => ?_)
  · have hk := hc.mp h
    rw [wp_bind]
    simp only [Prog.lift, Prog.bind_op, Prog.bind_ret, Prog.pure_eq_ret]
    rw [FFull, if_pos hk, OSt, if_neg (hj hk), OSt, h1 hk, if_pos hk, Finset.erase_eq_of_notMem fun hm => hj hk (hS' j hm),
      Ohome_take d _ o0 (hS hk),
      Ohome_congr d (outVal tv ff) o0 (S := S.erase k) (N := N) (N' := insert k N) fun i hi => by
        rw [Finset.mem_insert]; exact ⟨.inr, fun hh => hh.resolve_left (Finset.ne_of_mem_erase hi)⟩]
    unfold Fbuf Oidle Obuf Fidle
    iintro ⟨⟨⟨⟨%g, %hg, Hg⟩, Hsf⟩, ⟨Hs, Hsem⟩, Hk, Hh⟩, HQ⟩
    iapply (he h g)
    isplitl [Hg Hs]
    · isplitl [Hg]; · iexact Hg
      iexact Hs
    iintro ⟨Hg, ⟨%s, %hs, Hs⟩⟩
    iapply (op_out d L tv ff k off (hoff h) (inb h) a ha sem (fb.view.read (Elt F) g) s _ hs hg) $$ [Hs Hsem Hk]
    · isplitl [Hs Hsem]
      · isplitl [Hs]; · iexact Hs
        iexact Hsem
      iexact Hk
    iintro Hfl
    iapply HQ
    isplitl [Hg Hsf]
    · isplitl [Hg]; · iexists g; iexact Hg
      iexact Hsf
    isplitl [Hfl]; · iexact Hfl
    iexact Hh
  · have hk : ¬ k < 2500 := fun hk => h (hc.mpr hk)
    rw [FFull, if_neg hk, h2 hk,
      Ohome_congr d (outVal tv ff) o0 (S := S.erase j) (N := N) (N' := insert k N) fun i hi => by
        rw [Finset.mem_insert]
        exact ⟨.inr, fun hh => hh.resolve_left fun hik => hk (hik ▸ hS' i (Finset.mem_of_mem_erase hi))⟩]

end

end Cert.Proof
-- ==== Proof.Conds.lean ====
/-
  The conditions of the main loop in numbers, and which chunks are under way at each trip.
-/
module

public import proofs.«01_k».proof.Proof.Stages

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The conditions of the steps, in numbers -/

/-- The number of the worker at grid point `L`, and the word the kernel computes of it. -/
abbrev wk (L : grid0.Coords) : ℕ := 2 * (L 1).val + (L 0).val
abbrev wkW (L : grid0.Coords) : BitVec 32 := Scalar.addi (Scalar.muli (BitVec.ofNat 32 (L 1).val) 2#32) (BitVec.ofNat 32 (L 0).val)

theorem wk_lt : ∀ L : grid0.Coords, wk L < 32 := by decide +kernel

theorem cond1_iff : ∀ (L : grid0.Coords) (t : Fin k0_t1_loop.trips), k0_cond1 L t = 1#1 ↔ wk L + 64 * t.val + 32 < 2500 := by decide +kernel
theorem cond4_iff : ∀ (L : grid0.Coords) (t : Fin k0_t1_loop.trips), k0_cond4 L t = 1#1 ↔ wk L + 64 * t.val < 2500 := by decide +kernel
theorem cond5_iff : ∀ (L : grid0.Coords) (t : Fin k0_t1_loop.trips), k0_cond5 L t = 1#1 ↔ wk L + 64 * (t.val + 1) < 2500 := by decide +kernel
theorem cond8_iff : ∀ (L : grid0.Coords) (t : Fin k0_t1_loop.trips), k0_cond8 L t = 1#1 ↔ wk L + 64 * t.val + 32 < 2500 := by decide +kernel

theorem cond2_iff : ∀ (L : grid0.Coords) (t : Fin k0_t1_loop.trips),
    Scalar.cmpi .ne (Scalar.extui (Scalar.cmpi .slt (Scalar.addi (wkW L) (Scalar.muli 64#32 (Scf.iv 0#32 1#32 t.val))) 2500#32) : BitVec 32) 0#32 = 1#1
      ↔ wk L + 64 * t.val < 2500 := by decide +kernel
theorem cond6_iff : ∀ (L : grid0.Coords) (t : Fin k0_t1_loop.trips),
    Scalar.cmpi .ne (Scalar.extui (Scalar.cmpi .slt (Scalar.addi (Scalar.addi (wkW L) (Scalar.muli 64#32 (Scf.iv 0#32 1#32 t.val))) 32#32)
        2500#32) : BitVec 32) 0#32 = 1#1
      ↔ wk L + 64 * t.val + 32 < 2500 := by decide +kernel
theorem cond3_iff : ∀ (L : grid0.Coords) (t : Fin k0_t1_loop.trips),
    Scalar.cmpi .ne (Scalar.extui (Scalar.andi (Scalar.cmpi .sgt (Scf.iv 0#32 1#32 t.val) 0#32)
        (Scalar.cmpi .slt (Scalar.addi (wkW L) (Scalar.muli 64#32 (Scf.iv 0#32 1#32 t.val))) 2500#32)) : BitVec 32) 0#32 = 1#1
      ↔ 0 < t.val ∧ wk L + 64 * t.val < 2500 := by decide +kernel
theorem cond7_iff : ∀ (L : grid0.Coords) (t : Fin k0_t1_loop.trips),
    Scalar.cmpi .ne (Scalar.extui (Scalar.andi (Scalar.cmpi .sgt (Scf.iv 0#32 1#32 t.val) 0#32)
        (Scalar.cmpi .slt (Scalar.addi (Scalar.addi (wkW L) (Scalar.muli 64#32 (Scf.iv 0#32 1#32 t.val))) 32#32) 2500#32)) : BitVec 32) 0#32 = 1#1
      ↔ 0 < t.val ∧ wk L + 64 * t.val + 32 < 2500 := by decide +kernel

/-! ## Which chunk is on its way out of each staging buffer, before trip `p` (2500: none) -/

def lastA (w p : ℕ) : ℕ := if p = 0 then 2500 else if w + 64 * (p - 1) < 2500 then w + 64 * (p - 1) else w + 64 * (p - 2)
def lastB (w p : ℕ) : ℕ := if p = 0 then 2500 else if w + 64 * (p - 1) + 32 < 2500 then w + 64 * (p - 1) + 32 else w + 64 * (p - 2) + 32
/-- The same after the trip's wait for that copy. -/
def midA (w p : ℕ) : ℕ := if 0 < p ∧ w + 64 * p < 2500 then 2500 else lastA w p
def midB (w p : ℕ) : ℕ := if 0 < p ∧ w + 64 * p + 32 < 2500 then 2500 else lastB w p

section
variable {w p : ℕ} (hw : w < 32) (hp : p ≤ 40)
include hw hp

theorem lastA_pos (h : 0 < p) : lastA w p < 2500 ∧ lastA w p % 64 = w ∧ lastA w p < w + 64 * p := by
  unfold lastA; split_ifs <;> omega
theorem lastB_pos (h : 0 < p) : lastB w p < 2500 ∧ lastB w p % 64 = w + 32 ∧ lastB w p < w + 64 * p := by
  unfold lastB; split_ifs <;> omega
theorem lastA_zero (h : ¬ 0 < p) : lastA w p = 2500 := by unfold lastA; rw [if_pos (by omega)]
theorem lastB_zero (h : ¬ 0 < p) : lastB w p = 2500 := by unfold lastB; rw [if_pos (by omega)]
theorem midA_idle (h : w + 64 * p < 2500) : midA w p = 2500 := by unfold midA lastA; split_ifs <;> omega
theorem midB_idle (h : w + 64 * p + 32 < 2500) : midB w p = 2500 := by unfold midB lastB; split_ifs <;> omega
theorem lastA_succ (h : w + 64 * p < 2500) : lastA w (p + 1) = w + 64 * p := by
  unfold lastA; split_ifs <;> first | omega | simp_all
theorem lastB_succ (h : w + 64 * p + 32 < 2500) : lastB w (p + 1) = w + 64 * p + 32 := by
  unfold lastB; split_ifs <;> first | omega | simp_all
theorem lastA_stay (hp' : p < 40) (h : ¬ w + 64 * p < 2500) : lastA w (p + 1) = midA w p := by
  obtain rfl : p = 39 := by omega
  unfold midA lastA; split_ifs <;> omega
theorem lastB_stay (hp' : p < 40) (h : ¬ w + 64 * p + 32 < 2500) : lastB w (p + 1) = midB w p := by
  obtain rfl : p = 39 := by omega
  unfold midB lastB; split_ifs <;> omega
end

theorem before_succ (w p : ℕ) (hw : w < 32) :
    insert (w + 64 * p + 32) (insert (w + 64 * p) (before w (w + 64 * p))) = before w (w + 64 * (p + 1)) := by
  ext k
  simp only [Finset.mem_insert, mem_before]
  omega

end Cert.Proof
-- ==== Proof.MainTrip.lean ====
/-
  One trip of the main loop: two chunks, through the two fetch buffers and the two staging buffers.
-/
module

public import proofs.«01_k».proof.Proof.Conds

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section
variable (d : Dev nD) (L : grid0.Coords)

local notation "thr" => V d (cV L) (jV L)
local notation "WP" => wp frame (wpE (defs₀ (F := F)) 𝒱₀ (V d (cV L) (jV L)) none) Set.univ

variable (a3 : Memref sig .scVector .hbm S19 .f32) (h3 : a3.IsWhole)
  (a5 : Memref sig .scVector .vmem S400x21 .i32) (h5 : a5.IsWhole)
  (a6 : Memref sig .scVector .vmem S400x21 .i32) (h6 : a6.IsWhole) (a7 : Memref sig .scVector .vmem S512 .f32) (h7 : a7.IsWhole)
  (a8 : Memref sig .scVector .vmem S512 .f32) (h8 : a8.IsWhole) (a9 : Memref sig .scVector .vmem S32 .f32) (h9 : a9.IsWhole)
  (a10 a11 a12 a13 r0 : DmaSems sig S_)
  (ff : Buf (Elt F) (fLoc d)) (tv : Fin 19 → F .f32) (o0 : Buf (Elt F) (oLoc d))
  (O : CellTallies nD τ sig (HIx 1)) (W : Waits sig (HIx 1))

/-- Before trip `p`: chunk `w + 64p` on its way into the first fetch buffer, the second at rest, the last two finished chunks on
    their way out, the rows of all chunks before `w + 64p` final. -/
def tripInv (p : ℕ) : sProp 𝕄 :=
  iprop(FSt d L ff a7 a12.sem (wk L + 64 * p) ∗ Fidle d L a8 a13.sem ∗ Fhome d ff ((mine (wk L)).erase (wk L + 64 * p))
    ∗ OSt d L (outVal tv ff) a5 a10.sem (lastA (wk L) p) ∗ OSt d L (outVal tv ff) a6 a11.sem (lastB (wk L) p)
    ∗ Ohome d (outVal tv ff) o0 (((mine (wk L)).erase (lastA (wk L) p)).erase (lastB (wk L) p)) (before (wk L) (wk L + 64 * p))
    ∗ Owed d L O W ∗ Transfers.MayWaits thr none O)

theorem mine_lt {w : ℕ} {S : Finset ℕ} (h : S ⊆ mine w) : ∀ j ∈ S, j < 2500 := fun j hj => (mem_mine.mp (h hj)).1

set_option maxHeartbeats 4000000 in
/-- One trip of the main loop. -/
theorem wp_mainTrip (v8 v10 : FVec F S16 .f32) (v41 : FVec F S1 .f32) (p10 : k0_pay1 v41 = broadcast S16 (tv 10))
    (p11 : k0_pay2 v8 = broadcast S16 (tv 11)) (p12 : k0_pay3 v8 = broadcast S16 (tv 12)) (p13 : k0_pay4 v8 = broadcast S16 (tv 13))
    (p14 : k0_pay5 v8 = broadcast S16 (tv 14)) (p15 : k0_pay6 v8 = broadcast S16 (tv 15)) (p16 : k0_pay7 v10 = broadcast S16 (tv 16))
    (p17 : k0_pay8 v10 = broadcast S16 (tv 17)) (p18 : k0_pay9 v10 = broadcast S16 (tv 18)) (t : Fin k0_t1_loop.trips) :
    tripInv d L a5 a6 a7 a8 a10 a11 a12 a13 ff tv o0 O W t.val
      ⊢ WP (k0_t1_body L (Memref.whole main_arg0_scv) (Memref.isWhole_whole _) a3 h3 (Memref.whole main_v0_scv) (Memref.isWhole_whole _)
          a5 h5 a6 h6 a7 h7 a8 h8 a9 h9 a10 a11 a12 a13 r0 (wkW L) vIota vIota5 vOne vZero v8 v10
          (broadcast S16 (tv 0)) (broadcast S16 (tv 1)) (broadcast S16 (tv 2)) (broadcast S16 (tv 3)) (broadcast S16 (tv 4)) (broadcast S16 (tv 5)) (broadcast S16 (tv 6)) (broadcast S16 (tv 7)) (broadcast S16 (tv 8)) (broadcast S16 (tv 9)) v41 t ⟨⟩)
        fun _ => tripInv d L a5 a6 a7 a8 a10 a11 a12 a13 ff tv o0 O W (t.val + 1) := by
  have hw := wk_lt L
  have ht : t.val < 40 := t.isLt
  have hA := cond4_iff L t
  have hB := cond8_iff L t
  have hE := cond5_iff L t
  unfold k0_t1_body
  simp -zeta only [k0_part15_eq_skeleton, p10, p11, p12, p13, p14, p15, p16, p17, p18]
  unfold k0_part15_skel tripInv
  rw [wp_bind]
  iintro ⟨HF0, HF1, HFh, HOa, HOb, HOh, HO, #Hmw⟩
  -- start fetching the trip's second chunk
  iapply (stage_fetch d L ff (wk L + 64 * t.val + 32) (cond1_iff L t) ((mine (wk L)).erase (wk L + 64 * t.val))
    (fun h => by rw [Finset.mem_erase, mem_mine]; omega) (mine_lt (Finset.erase_subset _ _)) _
    (fun _ => by rw [k0_off2_eq]; congr 1; unfold wk; omega) _ a8 a13.sem)
  isplitl [HF1 HFh]
  · isplitl [HF1]; · iexact HF1
    iexact HFh
  iintro ⟨HF1, HFh⟩
  rw [Finset.erase_right_comm (a := wk L + 64 * t.val) (b := wk L + 64 * t.val + 32)]
  -- wait for its first
  iapply (stage_fwait d L ff (wk L + 64 * t.val) (cond2_iff L t) ((mine (wk L)).erase (wk L + 64 * t.val + 32))
    (fun h => by rw [Finset.mem_erase, mem_mine]; omega) (mine_lt (Finset.erase_subset _ _)) a7 a12.sem)
  isplitl [HF0 HFh HO]
  · isplitl [HF0]; · iexact HF0
    isplitl [HFh]; · iexact HFh
    isplitl [HO]; · iexact HO
    iexact Hmw
  iintro ⟨HF0, HFh, HO⟩
  -- wait until the first staging buffer is free
  rw [Finset.erase_right_comm (a := lastA (wk L) t.val) (b := lastB (wk L) t.val)]
  iapply (stage_owait d L ff tv o0 (lastA (wk L) t.val) (midA (wk L) t.val)
    (fun h => (lastA_pos hw ht.le ((cond3_iff L t).mp h).1).1) (fun h => by rw [midA_idle hw ht.le ((cond3_iff L t).mp h).2]; omega)
    (fun h => by rw [midA, if_neg fun hh => h ((cond3_iff L t).mpr hh)]) ((mine (wk L)).erase (lastB (wk L) t.val))
    (before (wk L) (wk L + 64 * t.val))
    (fun h => by
      have h1 := lastA_pos hw ht.le ((cond3_iff L t).mp h).1
      have h2 := lastB_pos hw ht.le ((cond3_iff L t).mp h).1
      rw [Finset.mem_erase, mem_mine]; omega)
    (mine_lt (Finset.erase_subset _ _))
    (fun h => by
      have h1 := lastA_pos hw ht.le ((cond3_iff L t).mp h).1
      rw [mem_before]; omega) a5 a10.sem)
  isplitl [HOa HOh HO]
  · isplitl [HOa]; · iexact HOa
    isplitl [HOh]; · iexact HOh
    isplitl [HO]; · iexact HO
    iexact Hmw
  iintro ⟨HOa, HOh, HO⟩
  -- compute the first chunk and start its copy out
  iapply (stage_out d L ff tv o0 (wk L + 64 * t.val) hA (midA (wk L) t.val) (lastA (wk L) (t.val + 1))
    (fun h => by rw [midA_idle hw ht.le h]; omega) (lastA_succ hw ht.le) (lastA_stay hw ht.le ht)
    ((mine (wk L)).erase (lastB (wk L) t.val)) (before (wk L) (wk L + 64 * t.val))
    (fun h => by
      rw [Finset.mem_erase, mem_mine]
      by_cases h0 : 0 < t.val
      · have h2 := lastB_pos hw ht.le h0; omega
      · have h2 := lastB_zero hw ht.le h0; omega)
    (mine_lt (Finset.erase_subset _ _)) a7 a12.sem a5 h5 a10.sem
    (fun h g Q => wp_rows d L (Memref.whole main_arg0_scv) (Memref.isWhole_whole _) a3 h3 (Memref.whole main_v0_scv) (Memref.isWhole_whole _)
      a5 h5 a6 h6 a7 h7 a8 h8 a9 h9 a10 a11 a12 a13 r0 (wkW L) tv 0#32 1#32 t h g)
    _ (fun _ => by rw [k0_off6_eq]; congr 1; unfold wk; omega) _)
  isplitl [HF0 HOa HOh]
  · isplitl [HF0]; · iexact HF0
    isplitl [HOa]; · iexact HOa
    iexact HOh
  iintro ⟨HF0, HOa, HOh⟩
  -- start fetching the next trip's first chunk
  iapply (stage_fetch d L ff (wk L + 64 * (t.val + 1)) hE ((mine (wk L)).erase (wk L + 64 * t.val + 32))
    (fun h => by rw [Finset.mem_erase, mem_mine]; omega) (mine_lt (Finset.erase_subset _ _)) _
    (fun _ => by rw [k0_off7_eq]; congr 1; unfold wk; omega) _ a7 a12.sem)
  isplitl [HF0 HFh]
  · isplitl [HF0]; · iexact HF0
    iexact HFh
  iintro ⟨HF0, HFh⟩
  rw [Finset.erase_right_comm (a := wk L + 64 * t.val + 32) (b := wk L + 64 * (t.val + 1))]
  -- wait for the trip's second chunk
  iapply (stage_fwait d L ff (wk L + 64 * t.val + 32) (cond6_iff L t) ((mine (wk L)).erase (wk L + 64 * (t.val + 1)))
    (fun h => by rw [Finset.mem_erase, mem_mine]; omega) (mine_lt (Finset.erase_subset _ _)) a8 a13.sem)
  isplitl [HF1 HFh HO]
  · isplitl [HF1]; · iexact HF1
    isplitl [HFh]; · iexact HFh
    isplitl [HO]; · iexact HO
    iexact Hmw
  iintro ⟨HF1, HFh, HO⟩
  -- wait until the second staging buffer is free
  rw [Finset.erase_right_comm (a := lastB (wk L) t.val) (b := lastA (wk L) (t.val + 1))]
  iapply (stage_owait d L ff tv o0 (lastB (wk L) t.val) (midB (wk L) t.val)
    (fun h => (lastB_pos hw ht.le ((cond7_iff L t).mp h).1).1) (fun h => by rw [midB_idle hw ht.le ((cond7_iff L t).mp h).2]; omega)
    (fun h => by rw [midB, if_neg fun hh => h ((cond7_iff L t).mpr hh)]) ((mine (wk L)).erase (lastA (wk L) (t.val + 1)))
    (insert (wk L + 64 * t.val) (before (wk L) (wk L + 64 * t.val)))
    (fun h => by
      have h1 := lastA_pos hw (p := t.val + 1) ht (Nat.succ_pos _)
      have h2 := lastB_pos hw ht.le ((cond7_iff L t).mp h).1
      rw [Finset.mem_erase, mem_mine]; omega)
    (mine_lt (Finset.erase_subset _ _))
    (fun h => by
      have h2 := lastB_pos hw ht.le ((cond7_iff L t).mp h).1
      rw [Finset.mem_insert, mem_before]; omega) a6 a11.sem)
  isplitl [HOb HOh HO]
  · isplitl [HOb]; · iexact HOb
    isplitl [HOh]; · iexact HOh
    isplitl [HO]; · iexact HO
    iexact Hmw
  iintro ⟨HOb, HOh, HO⟩
  iapply (ret_intro d L)
  -- compute the second chunk and start its copy out
  iapply (stage_out d L ff tv o0 (wk L + 64 * t.val + 32) hB (midB (wk L) t.val) (lastB (wk L) (t.val + 1))
    (fun h => by rw [midB_idle hw ht.le h]; omega) (lastB_succ hw ht.le) (lastB_stay hw ht.le ht)
    ((mine (wk L)).erase (lastA (wk L) (t.val + 1))) (insert (wk L + 64 * t.val) (before (wk L) (wk L + 64 * t.val)))
    (fun h => by
      have h1 := lastA_pos hw (p := t.val + 1) ht (Nat.succ_pos _)
      rw [Finset.mem_erase, mem_mine]; omega)
    (mine_lt (Finset.erase_subset _ _)) a8 a13.sem a6 h6 a11.sem
    (fun h g Q => by
      have h4 : k0_cond4 L t = 1#1 := hA.mpr (by have := hB.mp h; omega)
      have := wp_rows (Q := Q) d L (Memref.whole main_arg0_scv) (Memref.isWhole_whole _) a3 h3 (Memref.whole main_v0_scv) (Memref.isWhole_whole _)
        a6 h6 a5 h5 a8 h8 a7 h7 a9 h9 a10 a11 a12 a13 r0 (wkW L) tv 0#32 1#32 t h4 g
      rw [t3_eq_t2 (v1 := wkW L) (c0 := 0#32) (c1 := 1#32) (hA := h4), p10, p11, p12, p13, p14, p15, p16, p17, p18]
      exact this)
    _ (fun _ => by rw [k0_off11_eq]; congr 1; unfold wk; omega) _)
  isplitl [HF1 HOb HOh]
  · isplitl [HF1]; · iexact HF1
    isplitl [HOb]; · iexact HOb
    iexact HOh
  iintro ⟨HF1, HOb, HOh⟩
  iapply (ret_intro d L)
  rw [before_succ _ _ hw]
  isplitl [HF0]; · iexact HF0
  isplitl [HF1]; · iexact HF1
  isplitl [HFh]; · iexact HFh
  isplitl [HOa]; · iexact HOa
  isplitl [HOb]; · iexact HOb
  isplitl [HOh]; · iexact HOh
  isplitl [HO]; · iexact HO
  iexact Hmw

end

end Cert.Proof
-- ==== Proof.Head.lean ====
/-
  The head of the body: the thresholds are fetched once, and each is spread over a vector.
-/
module

public import proofs.«01_k».proof.Proof.MainTrip

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The thresholds, each spread over a vector -/

/-- The thresholds, by number. -/
def tvOf (tt : S19.Idx → F .f32) : Fin 19 → F .f32 := fun j => tt (ix1 j)

/-- A vector holding the first sixteen thresholds; one beginning with the last three. -/
def First (tv : Fin 19 → F .f32) (v : Vec F S16 .f32) : Prop := ∀ (r : ℕ) (h : r < 16), v (ix1 ⟨r, h⟩) = tv ⟨r, by omega⟩
def Second (tv : Fin 19 → F .f32) (v : Vec F S16 .f32) : Prop := ∀ (r : ℕ) (h : r < 3), v (ix1 ⟨r, by omega⟩) = tv ⟨16 + r, by omega⟩

section
variable {tv : Fin 19 → F .f32} {v7 v9 : Vec F S16 .f32}

theorem First.lane (h : First tv v7) (r : ℕ) (hr : r < 16) : k0_pay125 v7 (ix1 ⟨r, hr⟩) = tv ⟨r, by omega⟩ :=
  (congrFun (show k0_pay125 v7 = v7 from shapeCast_self _ _) _).trans (h r hr)
theorem Second.lane (h : Second tv v9) (r : ℕ) (hr : r < 3) : k0_pay126 v9 (ix1 ⟨r, by omega⟩) = tv ⟨16 + r, by omega⟩ :=
  (congrFun (show k0_pay126 v9 = v9 from shapeCast_self _ _) _).trans (h r hr)

theorem splat0 (h : First tv v7) : k0_pay127 v7 = broadcast S16 (tv 0) :=
  congrArg (broadcast S16) ((lane_eq (k0_pay125 v7) 0 (by decide) slices_S16_o0_S1).trans (h.lane 0 (by decide)))
theorem splat1 (h : First tv v7) : k0_pay128 v7 = broadcast S16 (tv 1) :=
  congrArg (broadcast S16) ((lane_eq (k0_pay125 v7) 1 (by decide) slices_S16_o1_S1).trans (h.lane 1 (by decide)))
theorem splat2 (h : First tv v7) : k0_pay129 v7 = broadcast S16 (tv 2) :=
  congrArg (broadcast S16) ((lane_eq (k0_pay125 v7) 2 (by decide) slices_S16_o2_S1).trans (h.lane 2 (by decide)))
theorem splat3 (h : First tv v7) : k0_pay130 v7 = broadcast S16 (tv 3) :=
  congrArg (broadcast S16) ((lane_eq (k0_pay125 v7) 3 (by decide) slices_S16_o3_S1).trans (h.lane 3 (by decide)))
theorem splat4 (h : First tv v7) : k0_pay131 v7 = broadcast S16 (tv 4) :=
  congrArg (broadcast S16) ((lane_eq (k0_pay125 v7) 4 (by decide) slices_S16_o4_S1).trans (h.lane 4 (by decide)))
theorem splat5 (h : First tv v7) : k0_pay132 v7 = broadcast S16 (tv 5) :=
  congrArg (broadcast S16) ((lane_eq (k0_pay125 v7) 5 (by decide) slices_S16_o5_S1).trans (h.lane 5 (by decide)))
theorem splat6 (h : First tv v7) : k0_pay133 v7 = broadcast S16 (tv 6) :=
  congrArg (broadcast S16) ((lane_eq (k0_pay125 v7) 6 (by decide) slices_S16_o6_S1).trans (h.lane 6 (by decide)))
theorem splat7 (h : First tv v7) : k0_pay134 v7 = broadcast S16 (tv 7) :=
  congrArg (broadcast S16) ((lane_eq (k0_pay125 v7) 7 (by decide) slices_S16_o7_S1).trans (h.lane 7 (by decide)))
theorem splat8 (h : First tv v7) : k0_pay135 v7 = broadcast S16 (tv 8) :=
  congrArg (broadcast S16) ((lane_eq (k0_pay125 v7) 8 (by decide) slices_S16_o8_S1).trans (h.lane 8 (by decide)))
theorem splat9 (h : First tv v7) : k0_pay136 v7 = broadcast S16 (tv 9) :=
  congrArg (broadcast S16) ((lane_eq (k0_pay125 v7) 9 (by decide) slices_S16_o9_S1).trans (h.lane 9 (by decide)))
theorem splat10 (h : First tv v7) : k0_pay1 (k0_pay137 v7) = broadcast S16 (tv 10) :=
  congrArg (broadcast S16) ((lane_eq (k0_pay125 v7) 10 (by decide) slices_S16_o10_S1).trans (h.lane 10 (by decide)))
theorem splat11 (h : First tv v7) : k0_pay2 (k0_pay125 v7) = broadcast S16 (tv 11) :=
  congrArg (broadcast S16) ((lane_eq (k0_pay125 v7) 11 (by decide) slices_S16_o11_S1).trans (h.lane 11 (by decide)))
theorem splat12 (h : First tv v7) : k0_pay3 (k0_pay125 v7) = broadcast S16 (tv 12) :=
  congrArg (broadcast S16) ((lane_eq (k0_pay125 v7) 12 (by decide) slices_S16_o12_S1).trans (h.lane 12 (by decide)))
theorem splat13 (h : First tv v7) : k0_pay4 (k0_pay125 v7) = broadcast S16 (tv 13) :=
  congrArg (broadcast S16) ((lane_eq (k0_pay125 v7) 13 (by decide) slices_S16_o13_S1).trans (h.lane 13 (by decide)))
theorem splat14 (h : First tv v7) : k0_pay5 (k0_pay125 v7) = broadcast S16 (tv 14) :=
  congrArg (broadcast S16) ((lane_eq (k0_pay125 v7) 14 (by decide) slices_S16_o14_S1).trans (h.lane 14 (by decide)))
theorem splat15 (h : First tv v7) : k0_pay6 (k0_pay125 v7) = broadcast S16 (tv 15) :=
  congrArg (broadcast S16) ((lane_eq (k0_pay125 v7) 15 (by decide) slices_S16_o15_S1).trans (h.lane 15 (by decide)))
theorem splat16 (h : Second tv v9) : k0_pay7 (k0_pay126 v9) = broadcast S16 (tv 16) :=
  congrArg (broadcast S16) ((lane_eq (k0_pay126 v9) 0 (by decide) slices_S16_o0_S1).trans (h.lane 0 (by decide)))
theorem splat17 (h : Second tv v9) : k0_pay8 (k0_pay126 v9) = broadcast S16 (tv 17) :=
  congrArg (broadcast S16) ((lane_eq (k0_pay126 v9) 1 (by decide) slices_S16_o1_S1).trans (h.lane 1 (by decide)))
theorem splat18 (h : Second tv v9) : k0_pay9 (k0_pay126 v9) = broadcast S16 (tv 18) :=
  congrArg (broadcast S16) ((lane_eq (k0_pay126 v9) 2 (by decide) slices_S16_o2_S1).trans (h.lane 2 (by decide)))
end

section
variable (d : Dev nD) (L : grid0.Coords)

local notation "thr" => V d (cV L) (jV L)
local notation "WP" => wp frame (wpE (defs₀ (F := F)) 𝒱₀ (V d (cV L) (jV L)) none) Set.univ

variable (a5 : Memref sig .scVector .vmem S400x21 .i32) (h5 : a5.IsWhole)
  (a6 : Memref sig .scVector .vmem S400x21 .i32) (h6 : a6.IsWhole) (a7 : Memref sig .scVector .vmem S512 .f32) (h7 : a7.IsWhole)
  (a8 : Memref sig .scVector .vmem S512 .f32) (h8 : a8.IsWhole) (a9 : Memref sig .scVector .vmem S32 .f32) (h9 : a9.IsWhole)
  (a10 a11 a12 a13 r0 : DmaSems sig S_)
  (O : CellTallies nD τ sig (HIx 1)) (W : Waits sig (HIx 1))

omit [FloatOps F] in
/-- A load from the buffer the thresholds were copied into reads, where it lies within the copy, the thresholds. -/
theorem read_fetched (g : a9.view.ty.Contents (Elt F)) (tt : S19.Idx → F .f32) (B : LoadRect S32) {x : B.shape.Idx} (z : S19.Idx)
    (hz : (B.idx x 0).val = (z 0).val) :
    a9.view.readAt (Elt F) B (a9.view.writes (Elt F) g [⟨Rect.unit (s := S32) ![0] S19.size inb_S32_S19_0, tt⟩]) x = tt z := by
  rw [View.readAt_apply]
  have he : B.idx x = (Rect.unit (s := S32) ![0] S19.size inb_S32_S19_0).emb z := by
    funext c
    match c with
    | ⟨0, _⟩ => exact Fin.ext (hz.trans (by show (z 0).val = 0 + 1 * (z 0).val; omega))
  refine (congrArg (a9.view.read (Elt F) _) he).trans ?_
  exact View.read_slice_write_emb (Val := Elt F) (v := a9.view) (Rect.unit (s := S32) ![0] S19.size inb_S32_S19_0) g tt (Finset.mem_univ _)

/-- The head of the body: the thresholds fetched, and each spread over a vector. -/
theorem wp_head (q : PosShare TreeShare) (tt : Buf (Elt F) (tLoc d)) :
    (iprop((tLoc d ↦{q} tt) ∗ (∃ g, (a9.view.loc thr ↦{fullShare} g)) ∗ semVal (thr, .dma r0.sem) 0 ∗ Owed d L O W
        ∗ Transfers.MayWaits thr none O) : sProp 𝕄)
      ⊢ WP (k0_part16 L (Memref.whole main_arg0_scv) (Memref.isWhole_whole _) (Memref.whole main_arg1_scv) (Memref.isWhole_whole _)
          (Memref.whole main_v0_scv) (Memref.isWhole_whole _) a5 h5 a6 h6 a7 h7 a8 h8 a9 h9 a10 a11 a12 a13 r0)
        fun r => iprop(⌜∃ v7 v9 : Vec F S16 .f32, First (tvOf tt) v7 ∧ Second (tvOf tt) v9
              ∧ r = ⟨wkW L, vIota, vIota5, vOne, vZero, k0_pay125 v7, k0_pay126 v9, k0_pay127 v7, k0_pay128 v7, k0_pay129 v7, k0_pay130 v7,
                  k0_pay131 v7, k0_pay132 v7, k0_pay133 v7, k0_pay134 v7, k0_pay135 v7, k0_pay136 v7, k0_pay137 v7⟩⌝
          ∗ (tLoc d ↦{q} tt) ∗ (∃ g, (a9.view.loc thr ↦{fullShare} g)) ∗ semVal (thr, .dma r0.sem) 0 ∗ Owed d L O W) := by
  rw [k0_part16_eq_skeleton]
  unfold k0_part16_skel
  simp only [Prog.lift, Prog.bind_op, Prog.bind_ret, Prog.pure_eq_ret]
  unfold Owed
  iintro ⟨Ht, ⟨%g, Hg⟩, Hsem, ⟨%W', %hW', HO⟩, #Hmw⟩
  ihave Ht' := (Entails.of_eq (show ((tLoc d ↦{q} tt) : sProp 𝕄) = ((Memref.whole main_arg1_scv).view.loc thr ↦{q} tt) from rfl)) $$ Ht
  sl_exec
  iapply (ret_intro d L)
  isplitr
  · ipureintro
    refine ⟨_, _, ?_, ?_, rfl⟩
    · intro r hr
      unfold wp_head.sl.v7 wp_head.sl.dma0 View.readCov
      exact read_fetched a9 _ _ _ (ix1 ⟨r, by omega⟩) (by show 0 + 1 * r = r; omega)
    · intro r hr
      exact read_fetched a9 _ _ _ (ix1 ⟨16 + r, by omega⟩) (by show 16 + 1 * r = 16 + r; omega)
  isplitl [Ht']; · iexact Ht'
  isplitl [Hg]; · iexists _; iexact Hg
  isplitl [Hsem]; · iexact Hsem
  iexists (insert (SemLoc.dma r0.sem, (none : HIx 1)) W')
  isplitr
  · ipureintro
    intro p hp
    rcases Finset.mem_insert.mp hp with rfl | hp
    · exact .inr rfl
    · exact hW' p hp
  iexact HO

end

end Cert.Proof
-- ==== Proof.Body.lean ====
/-
  The whole body of a tile.
-/
module

public import proofs.«01_k».proof.Proof.Head

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section
variable (d : Dev nD) (L : grid0.Coords)

local notation "thr" => V d (cV L) (jV L)
local notation "WP" => wp frame (wpE (defs₀ (F := F)) 𝒱₀ (V d (cV L) (jV L)) none) Set.univ

variable (a5 : Memref sig .scVector .vmem S400x21 .i32) (h5 : a5.IsWhole)
  (a6 : Memref sig .scVector .vmem S400x21 .i32) (h6 : a6.IsWhole) (a7 : Memref sig .scVector .vmem S512 .f32) (h7 : a7.IsWhole)
  (a8 : Memref sig .scVector .vmem S512 .f32) (h8 : a8.IsWhole) (a9 : Memref sig .scVector .vmem S32 .f32) (h9 : a9.IsWhole)
  (a10 a11 a12 a13 r0 : DmaSems sig S_)
  (O : CellTallies nD τ sig (HIx 1)) (W : Waits sig (HIx 1))
  (q : PosShare TreeShare) (ff : Buf (Elt F) (fLoc d)) (tt : Buf (Elt F) (tLoc d)) (o0 : Buf (Elt F) (oLoc d))

/-- The tile's own buffers and counters, at rest. -/
def AtRest : sProp 𝕄 :=
  iprop(Oidle d L a5 a10.sem ∗ Oidle d L a6 a11.sem ∗ Fidle d L a7 a12.sem ∗ Fidle d L a8 a13.sem
    ∗ (∃ g, (a9.view.loc thr ↦{fullShare} g)) ∗ semVal (thr, .dma r0.sem) 0)

set_option maxHeartbeats 2000000 in
/-- The whole body of a tile: from its chunks' values, the thresholds and its chunks' rows of the result to the same with the rows
    final. -/
theorem wp_body :
    (iprop((tLoc d ↦{q} tt) ∗ Fhome d ff (mine (wk L)) ∗ Ohome d (outVal (tvOf tt) ff) o0 (mine (wk L)) ∅
        ∗ AtRest d L a5 a6 a7 a8 a9 a10 a11 a12 a13 r0 ∗ Owed d L O W ∗ Transfers.MayWaits thr none O) : sProp 𝕄)
      ⊢ WP (cc0__sc_kernel L (Memref.whole main_arg0_scv) (Memref.isWhole_whole _) (Memref.whole main_arg1_scv) (Memref.isWhole_whole _)
          (Memref.whole main_v0_scv) (Memref.isWhole_whole _) a5 h5 a6 h6 a7 h7 a8 h8 a9 h9 a10 a11 a12 a13 r0)
        fun _ => iprop((tLoc d ↦{q} tt) ∗ Fhome d ff (mine (wk L)) ∗ Ohome d (outVal (tvOf tt) ff) o0 (mine (wk L)) (mine (wk L))
          ∗ AtRest d L a5 a6 a7 a8 a9 a10 a11 a12 a13 r0 ∗ Owed d L O W) := by
  have hw := wk_lt L
  rw [cc0__sc_kernel_eq_skeleton]
  unfold cc0__sc_kernel_skel AtRest
  rw [wp_bind]
  iintro ⟨Ht, HFh, HOh, ⟨HOa, HOb, HF0, HF1, Hg, Hr0⟩, HO, #Hmw⟩
  ihave Hhd := (wp_head d L a5 h5 a6 h6 a7 h7 a8 h8 a9 h9 a10 a11 a12 a13 r0 O W q tt) $$ [Ht Hg Hr0 HO]
  · isplitl [Ht]; · iexact Ht
    isplitl [Hg]; · iexact Hg
    isplitl [Hr0]; · iexact Hr0
    isplitl [HO]; · iexact HO
    iexact Hmw
  iapply (wp_wand frame (wpE (defs₀ (F := F)) 𝒱₀ (V d (cV L) (jV L)) none) Set.univ) $$ Hhd
  iintro %r ⟨%hr, Ht, Hg, Hr0, HO⟩
  obtain ⟨v7, v9, hv7, hv9, rfl⟩ := hr
  simp only [Prog.lift, Prog.bind_op, Prog.bind_ret, Prog.pure_eq_ret, splat0 hv7, splat1 hv7, splat2 hv7, splat3 hv7, splat4 hv7, splat5 hv7,
    splat6 hv7, splat7 hv7, splat8 hv7, splat9 hv7]
  -- the first fetch
  ihave HFh' := (Entails.of_eq (Fhome_take d ff (S := mine (wk L)) (k := wk L) (by rw [mem_mine]; omega))) $$ HFh
  icases HFh' with ⟨Hk, HFh⟩
  iapply (op_fetch d L ff (wk L) (k0_off1 L) (by rw [k0_off1_eq]; congr 1; unfold wk; omega) (k0_off1_inb L) a7 a12.sem) $$ [HF0 Hk]
  · isplitl [HF0]; · iexact HF0
    iexact Hk
  iintro HF0
  -- the loop
  iapply (Scf.wp_for_bind frame (wpE (defs₀ (F := F)) 𝒱₀ (V d (cV L) (jV L)) none) Set.univ _ _ _ _ _ _
    (fun p _ => tripInv d L a5 a6 a7 a8 a10 a11 a12 a13 ff (tvOf tt) o0 O W p)
    (fun t _ => wp_mainTrip d L (Memref.whole main_arg1_scv) (Memref.isWhole_whole _) a5 h5 a6 h6 a7 h7 a8 h8 a9 h9 a10 a11 a12 a13 r0 ff
      (tvOf tt) o0 O W _ _ _ (splat10 hv7) (splat11 hv7) (splat12 hv7) (splat13 hv7) (splat14 hv7) (splat15 hv7) (splat16 hv9)
      (splat17 hv9) (splat18 hv9) t)) $$ [HF0 HF1 HFh HOa HOb HOh HO]
  · unfold tripInv
    rw [FSt, if_pos (by omega), OSt, lastA_zero hw (by omega) (by omega), if_neg (by omega), OSt, lastB_zero hw (by omega) (by omega),
      if_neg (by omega), Finset.erase_eq_of_notMem (a := 2500) (s := mine (wk L)) (by rw [mem_mine]; omega),
      Finset.erase_eq_of_notMem (a := 2500) (s := mine (wk L)) (by rw [mem_mine]; omega)]
    isplitl [HF0]; · iexact HF0
    isplitl [HF1]; · iexact HF1
    isplitl [HFh]; · iexact HFh
    isplitl [HOa]; · iexact HOa
    isplitl [HOb]; · iexact HOb
    isplitl [HOh]
    · iapply (Entails.of_eq (Ohome_congr d (outVal (tvOf tt) ff) o0 (S := mine (wk L)) (N := ∅) (N' := before (wk L) (wk L + 64 * 0))
        fun k hk => by rw [mem_mine] at hk; rw [mem_before]; simp only [Finset.notMem_empty, false_iff]; omega)) $$ HOh
    isplitl [HO]; · iexact HO
    iexact Hmw
  iintro %_ HI
  rw [show Scf.trips _ _ _ = 40 from rfl]
  unfold tripInv
  icases HI with ⟨HF0, HF1, HFh, HOa, HOb, HOh, HO, -⟩
  have hA := lastA_pos hw (p := 40) le_rfl (by omega)
  have hB := lastB_pos hw (p := 40) le_rfl (by omega)
  -- the last two copies out
  rw [Finset.erase_right_comm (a := lastA (wk L) 40) (b := lastB (wk L) 40)]
  iapply (wait_out d L ff (tvOf tt) o0 (lastA (wk L) 40) hA.1 ((mine (wk L)).erase (lastB (wk L) 40)) (before (wk L) (wk L + 64 * 40))
    (by rw [Finset.mem_erase, mem_mine]; omega) (by rw [mem_before]; omega) a5 a10.sem)
  isplitl [HOa HOh HO]
  · isplitl [HOa]; · iexact HOa
    isplitl [HOh]; · iexact HOh
    isplitl [HO]; · iexact HO
    iexact Hmw
  iintro ⟨HOa, HOh, HO⟩
  iapply (wait_out d L ff (tvOf tt) o0 (lastB (wk L) 40) hB.1 (mine (wk L)) (before (wk L) (wk L + 64 * 40))
    (by rw [mem_mine]; omega) (by rw [mem_before]; omega) a6 a11.sem)
  isplitl [HOb HOh HO]
  · isplitl [HOb]; · iexact HOb
    isplitl [HOh]; · iexact HOh
    isplitl [HO]; · iexact HO
    iexact Hmw
  iintro ⟨HOb, HOh, HO⟩
  ihave HF0' := (Entails.of_eq (show FSt d L ff a7 a12.sem (wk L + 64 * 40) = Fidle d L a7 a12.sem by rw [FSt, if_neg (by omega)])) $$ HF0
  ihave HFh' := (Entails.of_eq (show Fhome d ff ((mine (wk L)).erase (wk L + 64 * 40)) = Fhome d ff (mine (wk L)) by
    rw [Finset.erase_eq_of_notMem (by rw [mem_mine]; omega)])) $$ HFh
  iapply (ret_intro d L)
  isplitl [Ht]; · iexact Ht
  isplitl [HFh']; · iexact HFh'
  isplitl [HOh]
  · iapply (Entails.of_eq (Ohome_congr d (outVal (tvOf tt) ff) o0 (S := mine (wk L)) (N := before (wk L) (wk L + 64 * 40))
      (N' := mine (wk L)) fun k hk => by
        rw [mem_before]
        refine ⟨fun _ => hk, fun _ => ?_⟩
        rw [mem_mine] at hk; omega)) $$ HOh
  isplitl [HOa HOb HF0' HF1 Hg Hr0]
  · isplitl [HOa]; · iexact HOa
    isplitl [HOb]; · iexact HOb
    isplitl [HF0']; · iexact HF0'
    isplitl [HF1]; · iexact HF1
    isplitl [Hg]; · iexact Hg
    iexact Hr0
  iexact HO

end

end Cert.Proof
-- ==== Proof.Launch.lean ====
/-
  The launch: what each worker is given and gives back, the tile body as the launch theorem asks for it, and the run of the whole
  program.
-/
module

public import proofs.«01_k».proof.Proof.Body

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The workers' shares -/

/-- What worker `w` holds of the arrays, the result at contents `o`: a read share of the thresholds, and its chunks of the values
    and of the result. -/
def share (d : Dev nD) (o : Buf (Elt F) (oLoc d)) (w : ℕ) : sProp 𝕄 :=
  iprop((tLoc d ↦{Transfers.dealOf fullShare (Finset.range 32) w} m (tLoc d)) ∗ Fhome d (m (fLoc d)) (mine w)
    ∗ bigSep (mine w) fun k => oLoc d ↦[oset k]{fullShare} o)

/-- What the workers of SparseCore `c` hold between them. -/
def coreShare (d : Dev nD) (o : Buf (Elt F) (oLoc d)) (c : ℕ) : sProp 𝕄 :=
  bigSep Finset.univ fun i : Fin 16 => share m d o (2 * i.val + c)

/-- The three arrays whole. -/
def whole (d : Dev nD) (o : Buf (Elt F) (oLoc d)) : sProp 𝕄 :=
  iprop((tLoc d ↦{fullShare} m (tLoc d)) ∗ (fLoc d ↦{fullShare} m (fLoc d)) ∗ (oLoc d ↦{fullShare} o))

/-- What the kernel leaves in the result. -/
def final (d : Dev nD) : Buf (Elt F) (oLoc d) := outVal (tvOf (m (tLoc d))) (m (fLoc d))

omit [FloatOps F] in
theorem fset_cover : (Finset.range 2500).biUnion fset = Finset.univ := by
  ext i
  have h : (i 0).val < 1000000 := (i 0).isLt
  simp only [Finset.mem_biUnion, Finset.mem_range, Finset.mem_univ, iff_true]
  exact ⟨(i 0).val / 400, by omega, by rw [mem_fset]; omega⟩
omit [FloatOps F] in
theorem oset_cover : (Finset.range 2500).biUnion oset = Finset.univ := by
  ext i
  have h : (i 0).val < 1000000 := (i 0).isLt
  simp only [Finset.mem_biUnion, Finset.mem_range, Finset.mem_univ, iff_true]
  exact ⟨(i 0).val / 400, by omega, by rw [mem_oset]; omega⟩
omit [FloatOps F] in
theorem mine_cover : (Finset.range 32).biUnion mine = Finset.range 2500 := by
  ext k
  simp only [Finset.mem_biUnion, Finset.mem_range, mem_mine]
  exact ⟨fun ⟨_, _, h, _⟩ => h, fun h => ⟨k % 32, by omega, h, rfl⟩⟩
omit [FloatOps F] in
theorem mine_disjoint : ∀ a ∈ Finset.range 32, ∀ b ∈ Finset.range 32, a ≠ b → Disjoint (mine a) (mine b) :=
  fun a _ b _ h => Finset.disjoint_left.mpr fun k ha hb => by rw [mem_mine] at ha hb; omega
omit [FloatOps F] in
theorem workers_cover :
    (Finset.univ : Finset (Fin 2)).biUnion (fun c => (Finset.univ : Finset (Fin 16)).image fun i => 2 * i.val + c.val) = Finset.range 32 := by
  decide

omit [FloatOps F] in
/-- The whole arrays are the shares of the thirty-two workers, -/
theorem whole_workers (d : Dev nD) (o : Buf (Elt F) (oLoc d)) :
    (whole m d o : sProp 𝕄) = bigSep (Finset.range 32) fun w => share m d o w := by
  unfold whole share Fhome
  rw [bigSep_sep', bigSep_sep', ← Transfers.pointsTo_deal (Finset.range 32) ⟨0, by decide⟩ fullShare,
    ← SparseCore.Cfg.bigSep_biUnion_eq _ _ _ mine_disjoint, ← SparseCore.Cfg.bigSep_biUnion_eq _ _ _ mine_disjoint, mine_cover,
    ← pointsTo_biUnion (Finset.range 2500) (ℓ := fLoc d) fset (fun a _ b _ h => fset_disjoint h),
    ← pointsTo_biUnion (Finset.range 2500) (ℓ := oLoc d) oset (fun a _ b _ h => oset_disjoint h), fset_cover, oset_cover]
  try rfl

omit [FloatOps F] in
/-- and so what the two SparseCores hold between them. -/
theorem whole_cores (d : Dev nD) (o : Buf (Elt F) (oLoc d)) :
    (whole m d o : sProp 𝕄) = bigSep Finset.univ fun c : Fin 2 => coreShare m d o c.val := by
  rw [whole_workers, ← workers_cover, SparseCore.Cfg.bigSep_biUnion_eq _ _ _ (by decide)]
  unfold coreShare
  refine bigSep_congr fun c _ => ?_
  exact SparseCore.bigSep_image_of_injOn (fun a _ b _ e => Fin.ext (by have e' : 2 * a.val + c.val = 2 * b.val + c.val := e; omega)) _

/-! ## What the handshakes carry -/

/-- The call takes each SparseCore's share with the result as it was, each tile its worker's; they come back with the result final. -/
def P : (K (F := F)).Pay (nD := nD) (Val := Elt F) (Name := ℕ) (U := UU) where
  st := fun _ d c => coreShare m d (m (oLoc d)) c.val
  dn := fun _ d c => coreShare m d (final m d) c.val
  go := fun _ d c i => share m d (m (oLoc d)) (2 * i.val + c.val)
  td := fun _ d c i => share m d (final m d) (2 * i.val + c.val)
  x := fun _ _ => iprop(emp)

instance share_storable (d : Dev nD) (o : Buf (Elt F) (oLoc d)) (w : ℕ) : BI.Storable (upEmb : UEmb _ 𝕄) (share m d o w) := by
  unfold share Fhome; infer_instance
instance coreShare_storable (d : Dev nD) (o : Buf (Elt F) (oLoc d)) (c : ℕ) : BI.Storable (upEmb : UEmb _ 𝕄) (coreShare m d o c) := by
  unfold coreShare; infer_instance

instance P_storable : (P (F := F) m).IsStorable where
  st _ d c := by unfold P; infer_instance
  dn _ d c := by unfold P; infer_instance
  go _ d c i := by unfold P; infer_instance
  td _ d c i := by unfold P; infer_instance

/-! ## The tile -/

section Tile

variable (d : Dev nD) (L : grid0.Coords)

local notation "thr" => V d (cV L) (jV L)
local notation "pr" => (Proc.scVector (cV L) (jV L) : Proc τ)

/-- The tile's DMA counter `k` of the five the body uses. -/
abbrev cellOf (s : DmaSems sig S_) : GSem nD τ sig := (thr, .dma s.sem)

omit [FloatOps F] in
theorem cell_ne {a b : DmaSems sig S_} (h : (SemLoc.dma a.sem : SemLoc sig) ≠ .dma b.sem) : cellOf d L a ≠ cellOf d L b :=
  fun e => h (Prod.mk.inj e).2

omit [FloatOps F] in
theorem ownSems0_V :
    (ownSems0 thr : sProp 𝕄)
      = iprop(semVal (cellOf d L cc0_scratch5) 0 ∗ semVal (cellOf d L cc0_scratch6) 0 ∗ semVal (cellOf d L cc0_scratch7) 0
          ∗ semVal (cellOf d L cc0_scratch8) 0 ∗ semVal (cellOf d L cc0_scoped0) 0
          ∗ bigSep ((((((ownCells thr).erase (cellOf d L cc0_scratch5)).erase (cellOf d L cc0_scratch6)).erase
              (cellOf d L cc0_scratch7)).erase (cellOf d L cc0_scratch8)).erase (cellOf d L cc0_scoped0)) fun g => semVal g 0) := by
  unfold SparseCore.Cfg.ownSems0
  have h5 : cellOf d L cc0_scratch5 ∈ ownCells thr := (mem_ownCells (g := cellOf d L cc0_scratch5)).mpr ⟨rfl, by
    show (SemLoc.dma cc0_scratch5.sem : SemLoc sig).isScoped .scVector = true; decide⟩
  have h6 : cellOf d L cc0_scratch6 ∈ ownCells thr := (mem_ownCells (g := cellOf d L cc0_scratch6)).mpr ⟨rfl, by
    show (SemLoc.dma cc0_scratch6.sem : SemLoc sig).isScoped .scVector = true; decide⟩
  have h7 : cellOf d L cc0_scratch7 ∈ ownCells thr := (mem_ownCells (g := cellOf d L cc0_scratch7)).mpr ⟨rfl, by
    show (SemLoc.dma cc0_scratch7.sem : SemLoc sig).isScoped .scVector = true; decide⟩
  have h8 : cellOf d L cc0_scratch8 ∈ ownCells thr := (mem_ownCells (g := cellOf d L cc0_scratch8)).mpr ⟨rfl, by
    show (SemLoc.dma cc0_scratch8.sem : SemLoc sig).isScoped .scVector = true; decide⟩
  have h0 : cellOf d L cc0_scoped0 ∈ ownCells thr := (mem_ownCells (g := cellOf d L cc0_scoped0)).mpr ⟨rfl, by
    show (SemLoc.dma cc0_scoped0.sem : SemLoc sig).isScoped .scVector = true; decide⟩
  rw [SparseCore.bigSep_erase' h5,
    SparseCore.bigSep_erase' (Finset.mem_erase.mpr ⟨cell_ne d L (by decide), h6⟩),
    SparseCore.bigSep_erase' (Finset.mem_erase.mpr ⟨cell_ne d L (by decide), Finset.mem_erase.mpr ⟨cell_ne d L (by decide), h7⟩⟩),
    SparseCore.bigSep_erase' (Finset.mem_erase.mpr ⟨cell_ne d L (by decide), Finset.mem_erase.mpr ⟨cell_ne d L (by decide),
      Finset.mem_erase.mpr ⟨cell_ne d L (by decide), h8⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), h0⟩⟩⟩⟩)]

omit [FloatOps F] in
theorem ref_ne {a b : Ref sig .scVector} (h : a ≠ b) : (pr).devRef a ≠ (pr).devRef b :=
  fun e => h (Proc.devRef_injective _ e)

omit [FloatOps F] in
theorem ownBufs_V :
    (ownBufs thr : sProp 𝕄)
      = iprop((∃ f, (thr).loc cc0_scratch0 ↦{fullShare} f) ∗ (∃ f, (thr).loc cc0_scratch1 ↦{fullShare} f)
          ∗ (∃ f, (thr).loc cc0_scratch2 ↦{fullShare} f) ∗ (∃ f, (thr).loc cc0_scratch3 ↦{fullShare} f)
          ∗ (∃ f, (thr).loc cc0_scratch4 ↦{fullShare} f)
          ∗ bigSep ((((((ownRefs (τ := τ) pr).erase ((pr).devRef cc0_scratch0)).erase ((pr).devRef cc0_scratch1)).erase
              ((pr).devRef cc0_scratch2)).erase ((pr).devRef cc0_scratch3)).erase ((pr).devRef cc0_scratch4))
              fun b => iprop(∃ f, ((d, b) : Loc nD τ sig) ↦{fullShare} f)) := by
  unfold SparseCore.Cfg.ownBufs
  have h0 : (pr).devRef cc0_scratch0 ∈ ownRefs (sig := sig) pr := SparseCore.Cfg.mem_ownRefs_of_owner (p := pr) (b := (pr).devRef cc0_scratch0) rfl
  have h1 : (pr).devRef cc0_scratch1 ∈ ownRefs (sig := sig) pr := SparseCore.Cfg.mem_ownRefs_of_owner (p := pr) (b := (pr).devRef cc0_scratch1) rfl
  have h2 : (pr).devRef cc0_scratch2 ∈ ownRefs (sig := sig) pr := SparseCore.Cfg.mem_ownRefs_of_owner (p := pr) (b := (pr).devRef cc0_scratch2) rfl
  have h3 : (pr).devRef cc0_scratch3 ∈ ownRefs (sig := sig) pr := SparseCore.Cfg.mem_ownRefs_of_owner (p := pr) (b := (pr).devRef cc0_scratch3) rfl
  have h4 : (pr).devRef cc0_scratch4 ∈ ownRefs (sig := sig) pr := SparseCore.Cfg.mem_ownRefs_of_owner (p := pr) (b := (pr).devRef cc0_scratch4) rfl
  refine (SparseCore.bigSep_erase' h0).trans ?_
  rw [SparseCore.bigSep_erase' (Finset.mem_erase.mpr ⟨ref_ne L (by decide), h1⟩),
    SparseCore.bigSep_erase' (Finset.mem_erase.mpr ⟨ref_ne L (by decide), Finset.mem_erase.mpr ⟨ref_ne L (by decide), h2⟩⟩),
    SparseCore.bigSep_erase' (Finset.mem_erase.mpr ⟨ref_ne L (by decide), Finset.mem_erase.mpr ⟨ref_ne L (by decide),
      Finset.mem_erase.mpr ⟨ref_ne L (by decide), h3⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), h4⟩⟩⟩⟩)]

/-- The tile's own buffers and counters, as the body calls them. -/
abbrev Rest : sProp 𝕄 :=
  AtRest d L (Memref.whole cc0_scratch0) (Memref.whole cc0_scratch1) (Memref.whole cc0_scratch2) (Memref.whole cc0_scratch3)
    (Memref.whole cc0_scratch4) cc0_scratch5 cc0_scratch6 cc0_scratch7 cc0_scratch8 cc0_scoped0

/-- A worker's share, the result at its start; and at its end. -/
theorem share_start (o : Buf (Elt F) (oLoc d)) (w : ℕ) :
    (share m d (m (oLoc d)) w : sProp 𝕄)
      = iprop((tLoc d ↦{Transfers.dealOf fullShare (Finset.range 32) w} m (tLoc d)) ∗ Fhome d (m (fLoc d)) (mine w)
          ∗ Ohome d o (m (oLoc d)) (mine w) ∅) := by
  unfold share Ohome
  rw [bigSep_congr (s := mine w) (Ψ := fun k => iprop(oLoc d ↦[oset k]{fullShare} (if k ∈ (∅ : Finset ℕ) then o else m (oLoc d))))
    fun k _ => by rw [if_neg (Finset.notMem_empty k)]]
theorem share_end (o o0 : Buf (Elt F) (oLoc d)) (w : ℕ) :
    (share m d o w : sProp 𝕄)
      = iprop((tLoc d ↦{Transfers.dealOf fullShare (Finset.range 32) w} m (tLoc d)) ∗ Fhome d (m (fLoc d)) (mine w)
          ∗ Ohome d o o0 (mine w) (mine w)) := by
  unfold share Ohome
  rw [bigSep_congr (s := mine w) (Ψ := fun k => iprop(oLoc d ↦[oset k]{fullShare} (if k ∈ mine w then o else o0)))
    fun k hk => by rw [if_pos hk]]

/-- The task on a tile, as the launch theorem asks for it. -/
theorem tile_body (hF : (K (F := F)).Facts) (O : CellTallies nD τ sig (HIx 1)) (W : Waits sig (HIx 1)) (hO : ∀ g, O g none = 0) :
    iprop(levAts (K (F := F)).L (K (F := F)).lev ∗ emp ∗ share m d (m (oLoc d)) (wk L) ∗ scopedBufs thr ∗ scopedSems0 thr ∗ owes thr O W)
      ⊢ wp frame (wpE (defs₀ (F := F)) 𝒱₀ (V d (cV L) (jV L)) none) Set.univ
          (cc0__sc_kernel L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0)
          fun _ => iprop(share m d (final m d) (wk L) ∗ scopedBufs thr ∗ scopedSems0 thr
            ∗ ∃ W', ⌜∀ p ∈ W', p ∈ W ∨ p.2 = none⌝ ∗ owes thr O W') := by
  rw [(K (F := F)).scopedBufs_V hF d (cV L) (jV L), SparseCore.Cfg.scopedSems0_V (Val := Elt F) d (cV L) (jV L), ownSems0_V, ownBufs_V,
    share_start m d (final m d), share_end m d (final m d) (m (oLoc d))]
  iintro ⟨#Hlv, -, ⟨Ht, Hf, Ho⟩, ⟨H0, H1, H2, H3, H4, Hbufs⟩, ⟨H5, H6, H7, H8, H9, Hsems⟩, HO⟩
  ihave #Hmw := (show levAts (K (F := F)).L (K (F := F)).lev ⊢ (Transfers.MayWaits (V d (cV L) (jV L)) none O : sProp 𝕄) from (K (F := F)).mayWaits_none hO) $$ Hlv
  ihave Hb := (wp_body d L (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scoped0 O W
      (Transfers.dealOf fullShare (Finset.range 32) (wk L)) (m (fLoc d)) (m (tLoc d)) (m (oLoc d)))
    $$ [Ht Hf Ho H0 H1 H2 H3 H4 H5 H6 H7 H8 H9 HO]
  · isplitl [Ht]; · iexact Ht
    isplitl [Hf]; · iexact Hf
    isplitl [Ho]; · iexact Ho
    isplitl [H0 H1 H2 H3 H4 H5 H6 H7 H8 H9]
    · unfold AtRest Oidle Fidle Obuf
      isplitl [H0 H5]; · isplitl [H0]; · iexact H0
                         iexact H5
      isplitl [H1 H6]; · isplitl [H1]; · iexact H1
                         iexact H6
      isplitl [H2 H7]; · isplitl [H2]; · iexact H2
                         iexact H7
      isplitl [H3 H8]; · isplitl [H3]; · iexact H3
                         iexact H8
      isplitl [H4]; · iexact H4
      iexact H9
    isplitl [HO]
    · unfold Owed
      iexists W; isplitr
      · ipureintro; exact fun p hp => .inl hp
      · iexact HO
    iexact Hmw
  iapply (wp_wand frame (wpE (defs₀ (F := F)) 𝒱₀ (V d (cV L) (jV L)) none) Set.univ) $$ Hb
  unfold AtRest Oidle Fidle Obuf Owed
  iintro %_ ⟨Ht, Hf, Ho, ⟨⟨H0, H5⟩, ⟨H1, H6⟩, ⟨H2, H7⟩, ⟨H3, H8⟩, H4, H9⟩, HO⟩
  isplitl [Ht Hf Ho]
  · isplitl [Ht]; · iexact Ht
    isplitl [Hf]; · iexact Hf
    iexact Ho
  isplitl [H0 H1 H2 H3 H4 Hbufs]
  · isplitl [H0]; · iexact H0
    isplitl [H1]; · iexact H1
    isplitl [H2]; · iexact H2
    isplitl [H3]; · iexact H3
    isplitl [H4]; · iexact H4
    iexact Hbufs
  isplitl [H5 H6 H7 H8 H9 Hsems]
  · isplitl [H5]; · iexact H5
    isplitl [H6]; · iexact H6
    isplitl [H7]; · iexact H7
    isplitl [H8]; · iexact H8
    isplitl [H9]; · iexact H9
    iexact Hsems
  iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_kernel (coordsV c s) (Memref.whole main_arg0_scv) (Memref.isWhole_whole _)
          (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show coreShare m d (m (oLoc d)) c.val ⊢ |={Set.univ}=> iprop(
      (bigSep Finset.univ fun i : Fin 16 => share m d (m (oLoc d)) (2 * i.val + c.val))
      ∗ ((bigSep Finset.univ fun i : Fin 16 => share m d (final m d) (2 * i.val + c.val)) -∗ coreShare m d (final m d) c.val))
  unfold coreShare
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg1) ∗ (fLoc d ↦{fullShare} W main_arg0) ∗ oLoc d ↦{fullShare} W main_v0) := by
  unfold unscopedBufs
  rw [show (Finset.univ.filter fun b : Ref sig .tc => ¬ b.isScoped) = {main_arg1, main_arg0, main_v0} by decide,
    SparseCore.bigSep_insert' (by decide), SparseCore.bigSep_insert' (by decide), bigSep_singleton]

theorem st0_eq (d : Dev nD) : (bigSep Finset.univ fun c : Fin ((K (F := F)).nCore 0) => (P m).st 0 d c) = whole m d (m (oLoc d)) :=
  (whole_cores m d (m (oLoc d))).symm
theorem dn0_eq (d : Dev nD) : (bigSep Finset.univ fun c : Fin ((K (F := F)).nCore 0) => (P m).dn 0 d c) = whole m d (final m d) :=
  (whole_cores m d (final m d)).symm

/-- @main on device `d`'s TensorCore: the one call, from the three arrays whole to the three arrays whole, the result final. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ whole m d (final m d) ∗ (K (F := F)).tcEnd d) := by
  unfold SparseCore.Cfg.tcRes SparseCore.Cfg.tcEnd
  rw [unscopedBufs_eq]
  simp only [main, wp_bind, wp_pure]
  iintro ⟨#Hctx, Hst, ⟨Hb, Hw, Hts, -⟩, -⟩
  iapply ((K (F := F)).wp_run (D (F := F)) 𝒱 (EH := EH) (P := P m) κ d 0) $$ [Hst Hw Hb Hts]
  isplitr; · iexact Hctx
  isplitl [Hst]; · iexact Hst
  isplitl [Hw]
  · rw [st0_eq]
    unfold whole
    iexact Hw
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (tLoc d) = m (tLoc d) ∧ s'.mem.mem (fLoc d) = m (fLoc d) ∧ s'.mem.mem (oLoc d) = final m d

theorem hfin (d : Dev nD) (s' : Phys nD τ sig (Elt F)) : iprop(whole m d (final m d) ∗ SI s') ⊢ (⌜fq m d s'⌝ : sProp 𝕄) := by
  unfold whole
  iintro ⟨⟨Ht, Hf, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%h2, HSI, -⟩
  ihave H := (SI_pointsTo_agree (st := s') (ℓ := oLoc d) (I := Finset.univ) (q := fullShare) (f := final m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- What a run ends with: the arguments as they were, the result final, every counter at zero. -/
def QC : PUnit × MemSt nD τ sig (Elt F) → Prop := fun r =>
  (∀ c : Dev nD, r.2.mem (tLoc c) = m (tLoc c) ∧ r.2.mem (fLoc c) = m (fLoc c) ∧ r.2.mem (oLoc c) = final m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (fun d => whole m d (final m d)) (u₀ (F := F)) (sep_elim_left.trans (hu₀ m)) (hmain m ρ) (fq m) (hfin m)
    (QC m) (fun _ h hz => ⟨h, hz⟩)

end Cert.Proof

end
-- ==== Proof.Bins.lean ====
/-
  Counting and interval tests are the same thing when the thresholds are in order: the number of thresholds below a value
  is `c` exactly when the value lies above threshold `c - 1` and not above threshold `c`. No arrays here: one value, the
  nineteen thresholds, extended reals.
-/
module

public import proofs.«01_k».proof.Proof.Setup
public import Idealize.ShloMosaic.PureOps.Ideal

@[expose] public section

noncomputable section

namespace Cert.Proof

open Idealize.ShloMosaic

/-- The thresholds do not decrease. -/
def InOrder (t : Fin 19 → Ideal .f32) : Prop := ∀ (j : ℕ) (h : j + 1 < 19), (show EReal from t ⟨j, by omega⟩) ≤ t ⟨j + 1, h⟩

theorem ogt_iff (x t : Ideal .f32) : FloatOps.cmpf .ogt x t = 1#1 ↔ (show EReal from t) < x := by
  show BitVec.ofBool (decide ((show EReal from t) < x)) = 1#1 ↔ _
  by_cases h : (show EReal from t) < x <;> simp [h]

theorem ole_iff (x t : Ideal .f32) : FloatOps.cmpf .ole x t = 1#1 ↔ ¬ (show EReal from t) < x := by
  show BitVec.ofBool (decide ((show EReal from x) ≤ t)) = 1#1 ↔ _
  rw [not_lt]
  by_cases h : (show EReal from x) ≤ t <;> simp [h]

theorem oge_iff (x t : Ideal .f32) : FloatOps.cmpf .oge x t = 1#1 ↔ (show EReal from t) ≤ x := by
  show BitVec.ofBool (decide ((show EReal from t) ≤ x)) = 1#1 ↔ _
  by_cases h : (show EReal from t) ≤ x <;> simp [h]

/-- In-order thresholds compare with any value as an initial stretch: the first `n` lie below it, the others do not. -/
theorem exists_stretch (t : Fin 19 → Ideal .f32) (ht : InOrder t) (x : Ideal .f32) :
    ∃ n : Fin 20, ∀ j : Fin 19, (show EReal from t j) < x ↔ j.val < n.val := by
  classical
  by_cases hall : ∀ j : Fin 19, (show EReal from t j) < x
  · exact ⟨19, fun j => ⟨fun _ => j.isLt, fun _ => hall j⟩⟩
  · have hex : ∃ k : ℕ, ∃ h : k < 19, ¬ (show EReal from t ⟨k, h⟩) < x := by
      by_contra hn
      exact hall fun j => by
        by_contra hj
        exact hn ⟨j.val, j.isLt, hj⟩
    obtain ⟨hk, hnot⟩ := Nat.find_spec hex
    have up : ∀ d : ℕ, ∀ h : Nat.find hex + d < 19, ¬ (show EReal from t ⟨Nat.find hex + d, h⟩) < x := by
      intro d
      induction d with
      | zero => intro h; exact hnot
      | succ d ih =>
        intro h hlt
        exact ih (by omega) (lt_of_le_of_lt (ht (Nat.find hex + d) h) hlt)
    refine ⟨⟨Nat.find hex, by omega⟩, fun j => ⟨fun hlt => ?_, fun hlt => ?_⟩⟩
    · by_contra hge
      have hge' : Nat.find hex ≤ j.val := Nat.le_of_not_lt hge
      have e : (⟨Nat.find hex + (j.val - Nat.find hex), by omega⟩ : Fin 19) = j := Fin.ext (by show _ + _ = _; omega)
      exact up (j.val - Nat.find hex) (by omega) (by rw [e]; exact hlt)
    · by_contra hn
      exact Nat.find_min hex hlt ⟨j.isLt, hn⟩

/-- Adding one for each position below `n` gives `n`. -/
theorem count_stretch (n : Fin 20) :
    (List.finRange 19).foldl (fun a j => a + if j.val < n.val then 1#32 else 0#32) 0#32 = BitVec.ofNat 32 n.val := by
  revert n; decide

/-- What the count is, when the first `n` thresholds are the ones below the value. -/
theorem cntW_stretch (t : Fin 19 → Ideal .f32) (x : Ideal .f32) (n : Fin 20)
    (hn : ∀ j : Fin 19, (show EReal from t j) < x ↔ j.val < n.val) : cntW t x = BitVec.ofNat 32 n.val := by
  rw [← count_stretch n]
  refine congrArg (fun f => (List.finRange 19).foldl f 0#32) (funext fun a => funext fun j => congrArg (a + ·) ?_)
  unfold above
  simp only [ogt_iff, hn j]

theorem hot_stretch (n : Fin 20) (c : ℕ) (hc : c < 21) : hot (BitVec.ofNat 32 n.val) c = if n.val = c then 1#32 else 0#32 := by
  have hn := n.isLt
  unfold hot
  refine if_congr ⟨fun e => ?_, fun e => by rw [e]⟩ rfl rfl
  have e' := congrArg BitVec.toNat e
  simp only [BitVec.toNat_ofNat] at e'
  omega

/-- One bit widened is one or zero as the bit is set or not. -/
theorem widen_eq (b : BitVec 1) (p : Prop) [Decidable p] (h : b = 1#1 ↔ p) :
    b.setWidth 32 = if p then 1#32 else 0#32 := by
  rw [← if_congr h rfl rfl]
  clear h
  revert b; decide

theorem andi_one (a b : BitVec 1) : a &&& b = 1#1 ↔ a = 1#1 ∧ b = 1#1 := by
  revert a b; decide

/-- The first interval: at or below the first threshold. -/
theorem bin_first (t : Fin 19 → Ideal .f32) (ht : InOrder t) (x : Ideal .f32) :
    (FloatOps.cmpf .ole x (t 0)).setWidth 32 = hot (cntW t x) 0 := by
  obtain ⟨n, hn⟩ := exists_stretch t ht x
  rw [cntW_stretch t x n hn, hot_stretch n 0 (by omega)]
  refine widen_eq _ _ ?_
  rw [ole_iff, hn 0]
  show ¬ (0 < n.val) ↔ _
  omega

/-- An inner interval: above threshold `k`, at or below threshold `k + 1`. -/
theorem bin_inner (t : Fin 19 → Ideal .f32) (ht : InOrder t) (x : Ideal .f32) (k : ℕ) (hk : k + 1 < 19) :
    (FloatOps.cmpf .ogt x (t ⟨k, by omega⟩) &&& FloatOps.cmpf .ole x (t ⟨k + 1, hk⟩)).setWidth 32 = hot (cntW t x) (k + 1) := by
  obtain ⟨n, hn⟩ := exists_stretch t ht x
  rw [cntW_stretch t x n hn, hot_stretch n (k + 1) (by omega)]
  refine widen_eq _ _ ?_
  rw [andi_one, ole_iff, ogt_iff, hn, hn]
  show k < n.val ∧ ¬ (k + 1 < n.val) ↔ _
  omega

/-- The last interval: above the last threshold. -/
theorem bin_last (t : Fin 19 → Ideal .f32) (ht : InOrder t) (x : Ideal .f32) :
    (FloatOps.cmpf .ogt x (t 18)).setWidth 32 = hot (cntW t x) 19 := by
  obtain ⟨n, hn⟩ := exists_stretch t ht x
  rw [cntW_stretch t x n hn, hot_stretch n 19 (by omega)]
  refine widen_eq _ _ ?_
  rw [ogt_iff, hn 18]
  show 18 < n.val ↔ _
  omega

/-- There are only nineteen thresholds, so no value falls in column 20. -/
theorem bin_none (t : Fin 19 → Ideal .f32) (ht : InOrder t) (x : Ideal .f32) : 0#32 = hot (cntW t x) 20 := by
  obtain ⟨n, hn⟩ := exists_stretch t ht x
  rw [cntW_stretch t x n hn, hot_stretch n 20 (by omega), if_neg (by omega)]

end Cert.Proof

end
-- ==== Proof.Rows.lean ====
/-
  The reference's twenty rows, each read at one value: a row is one interval test, and with the thresholds in order it is
  the matching column of the one-hot row of the value's count.
-/
module

public import proofs.«01_k».proof.Proof.Bins
public import proofs.«01_k».proof.Proof.Head
public import proofs.«01_k».proof.Proof.Gen.ReferenceIdeal.Run
public import Idealize.ShloMosaic.Lib.ValueLayout
public import Idealize.ShloMosaic.Lib.Pipeline.Value

@[expose] public section

noncomputable section

namespace Cert.Proof.Ref

open Cert.ReferenceIdeal Cert.ReferenceIdeal.Gen
open Idealize.ShloMosaic Idealize.ShloMosaic.TcCoe Idealize.ShloMosaic.ValueIdx

/-- Threshold `k`, spread over all the values. -/
abbrev spread (k : ℕ) (hk : S19.Slices ![k] S1) (tt : FVec Ideal S19 .f32) : FVec Ideal S1000000 .f32 :=
  broadcastInDim S1000000 ![] bcast_S_S1000000 (shapeCast S_ (extractStridedSlice S1 ![k] tt hk) shapeCasts_S1_S_)

theorem spread_apply (k : ℕ) (hk : S19.Slices ![k] S1) (tt : FVec Ideal S19 .f32) (i : S1000000.Idx) (h : k < 19) :
    spread k hk tt i = tvOf tt ⟨k, h⟩ := by
  refine congrArg tt (funext fun a => Fin.ext ?_)
  obtain rfl : a = 0 := Subsingleton.elim _ _
  show k + _ = k
  refine Nat.add_eq_left.2 (Nat.lt_one_iff.1 (Fin.isLt _))

/-- A vector laid down as a row reads, in the row, as itself. -/
theorem laid_apply {α : Type} (r : S1000000.Idx → α) (i : Fin 1000000) :
    broadcastInDim S1x1000000 ![1] bcast_S1000000_S1x1000000_1 r (ix2 0 i) = r (ix1 i) :=
  broadcastInDim_apply _ _ r _ _ fun a => by
    obtain rfl : a = 0 := Subsingleton.elim _ _
    rfl

variable (ff : FVec Ideal S1000000 .f32) (tt : FVec Ideal S19 .f32) (ht : InOrder (tvOf tt)) (i : Fin 1000000)
include ht

/-- Row 0. -/
theorem row_first : (broadcastInDim S1x1000000 ![1] bcast_S1000000_S1x1000000_1
      (cmpf .ole ff (spread 0 slices_S19_S1_0 tt)) (ix2 0 i)).setWidth 32 = hot (cntW (tvOf tt) (ff (ix1 i))) 0 := by
  rw [laid_apply]
  show (FloatOps.cmpf .ole (ff (ix1 i)) (spread 0 slices_S19_S1_0 tt (ix1 i))).setWidth 32 = _
  rw [spread_apply 0 _ _ _ (by omega)]
  exact bin_first _ ht _

/-- Rows 1 to 18. -/
theorem row_inner (k : ℕ) (hk : k + 1 < 19) (h₀ : S19.Slices ![k] S1) (h₁ : S19.Slices ![k + 1] S1) :
    (broadcastInDim S1x1000000 ![1] bcast_S1000000_S1x1000000_1
      (andi (cmpf .ogt ff (spread k h₀ tt)) (cmpf .ole ff (spread (k + 1) h₁ tt))) (ix2 0 i)).setWidth 32
      = hot (cntW (tvOf tt) (ff (ix1 i))) (k + 1) := by
  rw [laid_apply]
  show (FloatOps.cmpf .ogt (ff (ix1 i)) (spread k h₀ tt (ix1 i)) &&& FloatOps.cmpf .ole (ff (ix1 i)) (spread (k + 1) h₁ tt (ix1 i))).setWidth 32 = _
  rw [spread_apply k _ _ _ (by omega), spread_apply (k + 1) _ _ _ hk]
  exact bin_inner _ ht _ k hk

/-- Row 19. -/
theorem row_last : (broadcastInDim S1x1000000 ![1] bcast_S1000000_S1x1000000_1
      (cmpf .ogt ff (spread 18 slices_S19_S1_18 tt)) (ix2 0 i)).setWidth 32 = hot (cntW (tvOf tt) (ff (ix1 i))) 19 := by
  rw [laid_apply]
  show (FloatOps.cmpf .ogt (ff (ix1 i)) (spread 18 slices_S19_S1_18 tt (ix1 i))).setWidth 32 = _
  rw [spread_apply 18 _ _ _ (by omega)]
  exact bin_last _ ht _

end Cert.Proof.Ref

end
-- ==== Proof.Upper.lean ====
/-
  The reference's first sixteen rows, stacked: column by column they are the one-hot row of each value's count.
-/
module

public import proofs.«01_k».proof.Proof.Rows
public import proofs.«01_k».proof.Proof.Chunks

@[expose] public section

noncomputable section

namespace Cert.Proof.Ref

open Cert.ReferenceIdeal Cert.ReferenceIdeal.Gen Cert.ReferenceIdeal.Value
open Idealize.ShloMosaic Idealize.ShloMosaic.TcCoe Idealize.ShloMosaic.ValueIdx Idealize.ShloMosaic.StableHlo Idealize.SL.Sem

/-- The two arguments, in the buffers' contents `V`. -/
abbrev fOf (V : Valuation τ sig (Elt Ideal)) : FVec Ideal S1000000 .f32 := V (Proc.devRef .tc main_arg0)
abbrev tOf (V : Valuation τ sig (Elt Ideal)) : FVec Ideal S19 .f32 := V (Proc.devRef .tc main_arg1)

/-- A stack of rows read in row `k`: piece `k` read in its one row. -/
theorem stack_apply {α : Type} {n : ℕ} (xs : List ((s : Shape) × (s.Idx → α)))
    (h : Shape.Concatenates (xs.map (·.1)) (⟨2, ![n, 1000000]⟩ : Shape) 0) (k : Fin n) (i : Fin 1000000)
    (x : S1x1000000.Idx → α) (hx : xs[k.val]? = some ⟨S1x1000000, x⟩)
    (hpre : (((xs.take k.val).map (·.1)).map fun s => if h : s.rank = 2 then s.size (Fin.cast h.symm 0) else 0).sum = k.val) :
    concatenate (⟨2, ![n, 1000000]⟩ : Shape) 0 xs h (ix2 k i) = x (ix2 0 i) := by
  refine concatenate_apply_piece 0 xs h (ix2 k i) k.val (List.getElem?_eq_some_iff.1 hx).1 S1x1000000 x (List.getElem?_eq_some_iff.1 hx).2 rfl k.val hpre (ix2 0 i) (fun b hb => ?_) rfl
  match b, hb with
  | ⟨0, _⟩, hb => exact absurd rfl hb
  | ⟨1, _⟩, _ => rfl

set_option maxHeartbeats 2000000 in
/-- The first sixteen rows. -/
theorem upper (V : Valuation τ sig (Elt Ideal)) (ht : InOrder (tvOf (tOf V))) (i : Fin 1000000) (c : Fin 16) : (res_main_v190 V (ix2 c i)).setWidth 32 = hot (cntW (tvOf (tOf V)) (fOf V (ix1 i))) c.val := by
  unfold res_main_v190
  match c with
  | ⟨0, _⟩ => exact (congrArg (BitVec.setWidth 32) (stack_apply _ _ ⟨0, by omega⟩ i _ rfl rfl)).trans (row_first (fOf V) (tOf V) ht i)
  | ⟨1, _⟩ => exact (congrArg (BitVec.setWidth 32) (stack_apply _ _ ⟨1, by omega⟩ i _ rfl rfl)).trans (row_inner (fOf V) (tOf V) ht i 0 (by omega) slices_S19_S1_0 slices_S19_S1_1)
  | ⟨2, _⟩ => exact (congrArg (BitVec.setWidth 32) (stack_apply _ _ ⟨2, by omega⟩ i _ rfl rfl)).trans (row_inner (fOf V) (tOf V) ht i 1 (by omega) slices_S19_S1_1 slices_S19_S1_2)
  | ⟨3, _⟩ => exact (congrArg (BitVec.setWidth 32) (stack_apply _ _ ⟨3, by omega⟩ i _ rfl rfl)).trans (row_inner (fOf V) (tOf V) ht i 2 (by omega) slices_S19_S1_2 slices_S19_S1_3)
  | ⟨4, _⟩ => exact (congrArg (BitVec.setWidth 32) (stack_apply _ _ ⟨4, by omega⟩ i _ rfl rfl)).trans (row_inner (fOf V) (tOf V) ht i 3 (by omega) slices_S19_S1_3 slices_S19_S1_4)
  | ⟨5, _⟩ => exact (congrArg (BitVec.setWidth 32) (stack_apply _ _ ⟨5, by omega⟩ i _ rfl rfl)).trans (row_inner (fOf V) (tOf V) ht i 4 (by omega) slices_S19_S1_4 slices_S19_S1_5)
  | ⟨6, _⟩ => exact (congrArg (BitVec.setWidth 32) (stack_apply _ _ ⟨6, by omega⟩ i _ rfl rfl)).trans (row_inner (fOf V) (tOf V) ht i 5 (by omega) slices_S19_S1_5 slices_S19_S1_6)
  | ⟨7, _⟩ => exact (congrArg (BitVec.setWidth 32) (stack_apply _ _ ⟨7, by omega⟩ i _ rfl rfl)).trans (row_inner (fOf V) (tOf V) ht i 6 (by omega) slices_S19_S1_6 slices_S19_S1_7)
  | ⟨8, _⟩ => exact (congrArg (BitVec.setWidth 32) (stack_apply _ _ ⟨8, by omega⟩ i _ rfl rfl)).trans (row_inner (fOf V) (tOf V) ht i 7 (by omega) slices_S19_S1_7 slices_S19_S1_8)
  | ⟨9, _⟩ => exact (congrArg (BitVec.setWidth 32) (stack_apply _ _ ⟨9, by omega⟩ i _ rfl rfl)).trans (row_inner (fOf V) (tOf V) ht i 8 (by omega) slices_S19_S1_8 slices_S19_S1_9)
  | ⟨10, _⟩ => exact (congrArg (BitVec.setWidth 32) (stack_apply _ _ ⟨10, by omega⟩ i _ rfl rfl)).trans (row_inner (fOf V) (tOf V) ht i 9 (by omega) slices_S19_S1_9 slices_S19_S1_10)
  | ⟨11, _⟩ => exact (congrArg (BitVec.setWidth 32) (stack_apply _ _ ⟨11, by omega⟩ i _ rfl rfl)).trans (row_inner (fOf V) (tOf V) ht i 10 (by omega) slices_S19_S1_10 slices_S19_S1_11)
  | ⟨12, _⟩ => exact (congrArg (BitVec.setWidth 32) (stack_apply _ _ ⟨12, by omega⟩ i _ rfl rfl)).trans (row_inner (fOf V) (tOf V) ht i 11 (by omega) slices_S19_S1_11 slices_S19_S1_12)
  | ⟨13, _⟩ => exact (congrArg (BitVec.setWidth 32) (stack_apply _ _ ⟨13, by omega⟩ i _ rfl rfl)).trans (row_inner (fOf V) (tOf V) ht i 12 (by omega) slices_S19_S1_12 slices_S19_S1_13)
  | ⟨14, _⟩ => exact (congrArg (BitVec.setWidth 32) (stack_apply _ _ ⟨14, by omega⟩ i _ rfl rfl)).trans (row_inner (fOf V) (tOf V) ht i 13 (by omega) slices_S19_S1_13 slices_S19_S1_14)
  | ⟨15, _⟩ => exact (congrArg (BitVec.setWidth 32) (stack_apply _ _ ⟨15, by omega⟩ i _ rfl rfl)).trans (row_inner (fOf V) (tOf V) ht i 14 (by omega) slices_S19_S1_14 slices_S19_S1_15)
  | ⟨n + 16, h⟩ => exact absurd h (by omega)

end Cert.Proof.Ref

end
-- ==== Proof.RefValue.lean ====
/-
  The reference's result is the one-hot table of the counts: its twenty rows, stacked, turned and widened, with a column of
  zeros behind them.
-/
module

public import proofs.«01_k».proof.Proof.Upper
public import proofs.«01_k».proof.Proof.Chunks

@[expose] public section

noncomputable section

namespace Cert.Proof.Ref

open Cert.ReferenceIdeal Cert.ReferenceIdeal.Gen Cert.ReferenceIdeal.Value
open Idealize.ShloMosaic Idealize.ShloMosaic.TcCoe Idealize.ShloMosaic.ValueIdx Idealize.ShloMosaic.StableHlo Idealize.SL.Sem

theorem hot_congr (b : BitVec 32) (c d : ℕ) (h : c = d) : hot b c = hot b d := by rw [h]

set_option maxHeartbeats 2000000 in
/-- **The reference runs, and its result is the one-hot table of the counts**, whenever the thresholds are in order. -/
theorem run_value (m : (ℓ : Loc nD τ sig) → Buf (Elt Ideal) ℓ) (ρ : Dev nD → PrngReg)
    (ho : ∀ c : Dev nD, InOrder (tvOf (tOf (launchContents m c)))) :
    θ_run (defs (F := Ideal)) (onTc (τ := τ) (main (F := Ideal))) ⟨m, fun _ => 0, ρ⟩ fun r => ∀ c : Dev nD,
      r.2.mem ((c.tc : Thread nD τ).loc main_v196) = outVal (tvOf (tOf (launchContents m c))) (fOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun j => ?_), (h c).2⟩) (run m ρ)
  have ht := ho c
  generalize launchContents m c = V at ht ⊢
  obtain ⟨i, q, rfl⟩ : ∃ (i : Fin 1000000) (q : Fin 21), j = ix2 i q := ⟨j 0, j 1, eq_ix2 j⟩
  show _ = hot (cntW (tvOf (tOf V)) (fOf V (ix1 i))) q.val
  by_cases hq : q.val < 20
  · refine (concatenate_pair_apply_left (t := S1000000x21) (s₁ := S1000000x20) (s₂ := S1000000x1) 1 _ _ _ _ rfl (ix2 i ⟨q.val, hq⟩) (fun b => match b with | ⟨0, _⟩ => rfl | ⟨1, _⟩ => rfl)).trans ?_
    refine (congrArg (BitVec.setWidth 32) (transpose_ix2_apply _ _ i ⟨q.val, hq⟩)).trans ?_
    by_cases hu : q.val < 16
    · refine (congrArg (BitVec.setWidth 32) (concatenate_pair_apply_left (t := S20x1000000) (s₁ := S16x1000000) (s₂ := S4x1000000) 0 _ _ _ _ rfl (ix2 ⟨q.val, hu⟩ i) (fun b => match b with | ⟨0, _⟩ => rfl | ⟨1, _⟩ => rfl))).trans ?_
      exact upper V ht i ⟨q.val, hu⟩
    · obtain ⟨d, hd⟩ : ∃ d : Fin 4, q.val = d.val + 16 := ⟨⟨q.val - 16, by omega⟩, by show _ = q.val - 16 + 16; omega⟩
      refine (congrArg (BitVec.setWidth 32) (concatenate_pair_apply_right (t := S20x1000000) (s₁ := S16x1000000) (s₂ := S4x1000000) 0 _ _ _ _ rfl rfl (ix2 d i)
        (fun b hb => ?_) ?_)).trans ?_
      · match b, hb with
        | ⟨0, _⟩, hb => exact absurd rfl hb
        | ⟨1, _⟩, _ => rfl
      · exact hd.symm
      · refine Eq.trans (?_ : _ = hot (cntW (tvOf (tOf V)) (fOf V (ix1 i))) (d.val + 16)) (hot_congr _ _ _ hd.symm)
        clear hd
        match d with
        | ⟨0, _⟩ => exact (congrArg (BitVec.setWidth 32) (stack_apply _ _ ⟨0, by omega⟩ i _ rfl rfl)).trans (row_inner (fOf V) (tOf V) ht i 15 (by omega) slices_S19_S1_15 slices_S19_S1_16)
        | ⟨1, _⟩ => exact (congrArg (BitVec.setWidth 32) (stack_apply _ _ ⟨1, by omega⟩ i _ rfl rfl)).trans (row_inner (fOf V) (tOf V) ht i 16 (by omega) slices_S19_S1_16 slices_S19_S1_17)
        | ⟨2, _⟩ => exact (congrArg (BitVec.setWidth 32) (stack_apply _ _ ⟨2, by omega⟩ i _ rfl rfl)).trans (row_inner (fOf V) (tOf V) ht i 17 (by omega) slices_S19_S1_17 slices_S19_S1_18)
        | ⟨3, _⟩ => exact (congrArg (BitVec.setWidth 32) (stack_apply _ _ ⟨3, by omega⟩ i _ rfl rfl)).trans (row_last (fOf V) (tOf V) ht i)
  · have hq20 : q.val = 20 := by omega
    refine (concatenate_pair_apply_right (t := S1000000x21) (s₁ := S1000000x20) (s₂ := S1000000x1) 1 _ _ _ _ rfl rfl (ix2 i (0 : Fin 1)) (fun b hb => ?_) ?_).trans ?_
    · match b, hb with
      | ⟨0, _⟩, _ => rfl
      | ⟨1, _⟩, hb => exact absurd rfl hb
    · show 0 + 20 = q.val
      omega
    · rw [hq20]
      exact bin_none _ ht _

end Cert.Proof.Ref

end
-- ==== Proof.Ordered.lean ====
/-
  The precondition, read back: every threshold is at least the one before it.
-/
module

public import proofs.«01_k».proof.Proof.Bins
public import proofs.«01_k».proof.Proof.Head
public import proofs.«01_k».proof.Proof.Gen.Pre_sorted_thresholds
public import Idealize.ShloMosaic.Lib.ReduceAll
public import Idealize.ShloMosaic.Lib.Pipeline.Value

@[expose] public section

noncomputable section

namespace Cert.Proof

open Cert.Pre_sorted_thresholds Cert.Pre_sorted_thresholds.Gen
open Idealize.ShloMosaic Idealize.ShloMosaic.ValueIdx

/-- The precondition's one bit is set only when the thresholds are in order. -/
theorem inOrder_of_pre (a : FVec Ideal S1000000 .f32) (b : FVec Ideal S19 .f32)
    (h : Cert.Pre_sorted_thresholds.fn (F := Ideal) a b = fun _ => 1#1) : InOrder (tvOf b) := by
  intro j hj
  haveI : Subsingleton S_.Idx := ⟨fun x y => funext fun i => i.elim0⟩
  have e := Host.reduce_andi_all _ _ _ _ (fun i : Fin 0 => i.elim0) (congrFun h _) (ix1 (⟨j, by omega⟩ : Fin 18))
  have e' := (oge_iff _ _).1 e
  refine (le_of_eq ?_).trans (e'.trans (le_of_eq ?_))
  · refine congrArg b (funext fun k => Fin.ext ?_)
    obtain rfl : k = 0 := Subsingleton.elim _ _
    exact (Nat.zero_add j).symm
  · refine congrArg b (funext fun k => Fin.ext ?_)
    obtain rfl : k = 0 := Subsingleton.elim _ _
    exact Nat.add_comm 1 j

end Cert.Proof

end
-- ==== Proof.lean ====
/-
  The claims of the binning kernel, assembled: each program's frame is its run with the value forgotten; the value claim
  puts the kernel's run beside the reference's, both ending in the one-hot table of the counts.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_sorted_thresholds
public import proofs.«01_k».proof.Proof.Launch
public import proofs.«01_k».proof.Proof.RefValue
public import proofs.«01_k».proof.Proof.Ordered
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

attribute [local instance] Cert.Kernel.Gen.facts Cert.KernelIdeal.Gen.facts Cert.ReferenceIdeal.Gen.facts Cert.Pre_sorted_thresholds.Gen.facts

/-- The kernel's frame, on machine words. -/
theorem frame_kernel : Cert.quiescent_Kernel (hKernel := Cert.Kernel.Gen.facts) := fun m g _ =>
  (θ_run Cert.KernelIdeal.defs _ _).mono (fun _ h => ⟨fun c => ⟨(h.1 c).2.1, (h.1 c).1⟩, h.2⟩) (run_main (F := Bits) m g)

/-- The kernel's frame, on extended reals. -/
theorem frame_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).2.1, (h.1 c).1⟩, h.2⟩) (run_main (F := Ideal) m g)

/-- The reference's frame. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- **The value claim**: with the thresholds in order, kernel and reference end with the same table. -/
theorem value : Cert.algebraic_KernelIdeal_ReferenceIdeal_pre_sorted_thresholds (hKernelIdeal := Cert.KernelIdeal.Gen.facts)
    (hReferenceIdeal := Cert.ReferenceIdeal.Gen.facts) (hPre_sorted_thresholds := Cert.Pre_sorted_thresholds.Gen.facts) := by
  intro m g m' g' hpre hagree
  refine ⟨fun c => final m c, (θ_run Cert.KernelIdeal.defs _ _).mono (fun _ h c => ⟨(h.1 c).2.2, (h.1 c).2.1, (h.1 c).1⟩)
    (run_main (F := Ideal) m g), ?_⟩
  have ho : ∀ c : Dev Cert.ReferenceIdeal.nD, InOrder (tvOf (Ref.tOf (launchContents m' c))) := fun c => by
    have e : Ref.tOf (launchContents m' c) = m ((c.tc : Thread Cert.KernelIdeal.nD Cert.KernelIdeal.τ).loc Cert.KernelIdeal.main_arg1) := (hagree c).2
    rw [e]
    exact inOrder_of_pre _ _ (hpre c)
  refine (θ_run Cert.ReferenceIdeal.defs _ _).mono (fun r h c => ⟨(h c).1.trans ?_, (h c).2⟩) (Ref.run_value m' g' ho)
  have e₀ : Ref.fOf (launchContents m' c) = m ((c.tc : Thread Cert.KernelIdeal.nD Cert.KernelIdeal.τ).loc Cert.KernelIdeal.main_arg0) := (hagree c).1
  have e₁ : Ref.tOf (launchContents m' c) = m ((c.tc : Thread Cert.KernelIdeal.nD Cert.KernelIdeal.τ).loc Cert.KernelIdeal.main_arg1) := (hagree c).2
  rw [e₀, e₁]
  rfl

theorem claim : Cert.Claim := ⟨Cert.Kernel.Gen.facts, Cert.KernelIdeal.Gen.facts, Cert.ReferenceIdeal.Gen.facts, Cert.Pre_sorted_thresholds.Gen.facts,
  frame_kernel, fun m g _ => frame_ideal m g, fun m g _ => frame_ideal m g, fun m g _ => frame_reference m g,
  fun m g _ => frame_reference m g, trivial, value⟩

end Cert.Proof

end
